-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x6912x5120 : Shape := ⟨3, ![3, 6912, 5120]⟩
abbrev S3x6912 : Shape := ⟨2, ![3, 6912]⟩
abbrev S3x6912x32 : Shape := ⟨3, ![3, 6912, 32]⟩
abbrev S3x32x5120 : Shape := ⟨3, ![3, 32, 5120]⟩
abbrev S3x5120 : Shape := ⟨2, ![3, 5120]⟩
abbrev S3x4x6912x128 : Shape := ⟨4, ![3, 4, 6912, 128]⟩
abbrev S3x4x128x5120 : Shape := ⟨4, ![3, 4, 128, 5120]⟩
abbrev S3x4 : Shape := ⟨2, ![3, 4]⟩
abbrev S3x1x6912 : Shape := ⟨3, ![3, 1, 6912]⟩
abbrev S3x32x6912 : Shape := ⟨3, ![3, 32, 6912]⟩
abbrev S3x1x5120 : Shape := ⟨3, ![3, 1, 5120]⟩
abbrev S3x512x5120 : Shape := ⟨3, ![3, 512, 5120]⟩
abbrev S3x5120x6912 : Shape := ⟨3, ![3, 5120, 6912]⟩
abbrev S3x8x128 : Shape := ⟨3, ![3, 8, 128]⟩
abbrev S1x256x5120 : Shape := ⟨3, ![1, 256, 5120]⟩
abbrev S1x1x256 : Shape := ⟨3, ![1, 1, 256]⟩
abbrev S1x32x256 : Shape := ⟨3, ![1, 32, 256]⟩
abbrev S1x32x5120 : Shape := ⟨3, ![1, 32, 5120]⟩
abbrev S1x1x5120 : Shape := ⟨3, ![1, 1, 5120]⟩
abbrev S1x4x256x128 : Shape := ⟨4, ![1, 4, 256, 128]⟩
abbrev S1x512x5120 : Shape := ⟨3, ![1, 512, 5120]⟩
abbrev S1x5120x256 : Shape := ⟨3, ![1, 5120, 256]⟩
abbrev S1x8x128 : Shape := ⟨3, ![1, 8, 128]⟩
abbrev S256x512 : Shape := ⟨2, ![256, 512]⟩
abbrev S256x32 : Shape := ⟨2, ![256, 32]⟩
abbrev S256x5120 : Shape := ⟨2, ![256, 5120]⟩
abbrev S256x128 : Shape := ⟨2, ![256, 128]⟩
abbrev S1x1 : Shape := ⟨2, ![1, 1]⟩
abbrev S8x128 : Shape := ⟨2, ![8, 128]⟩
abbrev S1x128 : Shape := ⟨2, ![1, 128]⟩
abbrev S1x1x256x128 : Shape := ⟨4, ![1, 1, 256, 128]⟩
abbrev S32x256 : Shape := ⟨2, ![32, 256]⟩
abbrev S1x256 : Shape := ⟨2, ![1, 256]⟩
abbrev S128x256 : Shape := ⟨2, ![128, 256]⟩
abbrev S1x32x512 : Shape := ⟨3, ![1, 32, 512]⟩
abbrev S32x512 : Shape := ⟨2, ![32, 512]⟩
abbrev S1x128x512 : Shape := ⟨3, ![1, 128, 512]⟩
abbrev S128x512 : Shape := ⟨2, ![128, 512]⟩
abbrev S1x256x128 : Shape := ⟨3, ![1, 256, 128]⟩
abbrev S1x1x128 : Shape := ⟨3, ![1, 1, 128]⟩
abbrev S256 : Shape := ⟨1, ![256]⟩
abbrev S256x1 : Shape := ⟨2, ![256, 1]⟩
abbrev S256x384 : Shape := ⟨2, ![256, 384]⟩
abbrev S1x384x512 : Shape := ⟨3, ![1, 384, 512]⟩
abbrev S384x512 : Shape := ⟨2, ![384, 512]⟩
abbrev S32x8x128 : Shape := ⟨3, ![32, 8, 128]⟩
abbrev S1x128x256 : Shape := ⟨3, ![1, 128, 256]⟩

abbrev nBuf : Space → Nat
  | .hbm => 24
  | .vmem => 34
  | .smem => 3
  | _ => 0

abbrev bufTy : (tb : Table) → Fin (tcTables nBuf tb) → BufTy
  | .hbm, ⟨0, _⟩ => ⟨S3x6912x5120, .fp8e4m3⟩
  | .hbm, ⟨1, _⟩ => ⟨S3x6912, .f32⟩
  | .hbm, ⟨2, _⟩ => ⟨S3x6912x32, .fp8e4m3⟩
  | .hbm, ⟨3, _⟩ => ⟨S3x6912, .f32⟩
  | .hbm, ⟨4, _⟩ => ⟨S3x32x5120, .fp8e4m3⟩
  | .hbm, ⟨5, _⟩ => ⟨S3x5120, .f32⟩
  | .hbm, ⟨6, _⟩ => ⟨S3x4x6912x128, .bf16⟩
  | .hbm, ⟨7, _⟩ => ⟨S3x4x128x5120, .bf16⟩
  | .hbm, ⟨8, _⟩ => ⟨S3x4, .i32⟩
  | .hbm, ⟨9, _⟩ => ⟨S3x4, .f32⟩
  | .hbm, ⟨10, _⟩ => ⟨S3x4, .f32⟩
  | .hbm, ⟨11, _⟩ => ⟨S3x6912, .f32⟩
  | .hbm, ⟨12, _⟩ => ⟨S3x1x6912, .f32⟩
  | .hbm, ⟨13, _⟩ => ⟨S3x32x6912, .fp8e4m3⟩
  | .hbm, ⟨14, _⟩ => ⟨S3x1x6912, .f32⟩
  | .hbm, ⟨15, _⟩ => ⟨S3x1x5120, .f32⟩
  | .hbm, ⟨16, _⟩ => ⟨S3x512x5120, .bf16⟩
  | .hbm, ⟨17, _⟩ => ⟨S3x1x6912, .f32⟩
  | .hbm, ⟨18, _⟩ => ⟨S3x1x6912, .f32⟩
  | .hbm, ⟨19, _⟩ => ⟨S3x1x6912, .f32⟩
  | .hbm, ⟨20, _⟩ => ⟨S3x1x6912, .f32⟩
  | .hbm, ⟨21, _⟩ => ⟨S3x6912x5120, .fp8e4m3⟩
  | .hbm, ⟨22, _⟩ => ⟨S3x5120x6912, .f32⟩
  | .hbm, ⟨23, _⟩ => ⟨S3x8x128, .f32⟩
  | .local _ .vmem, ⟨0, _⟩ => ⟨S1x256x5120, .fp8e4m3⟩
  | .local _ .vmem, ⟨1, _⟩ => ⟨S1x256x5120, .fp8e4m3⟩
  | .local _ .vmem, ⟨2, _⟩ => ⟨S1x1x256, .f32⟩
  | .local _ .vmem, ⟨3, _⟩ => ⟨S1x1x256, .f32⟩
  | .local _ .vmem, ⟨4, _⟩ => ⟨S1x32x256, .fp8e4m3⟩
  | .local _ .vmem, ⟨5, _⟩ => ⟨S1x32x256, .fp8e4m3⟩
  | .local _ .vmem, ⟨6, _⟩ => ⟨S1x1x256, .f32⟩
  | .local _ .vmem, ⟨7, _⟩ => ⟨S1x1x256, .f32⟩
  | .local _ .vmem, ⟨8, _⟩ => ⟨S1x32x5120, .fp8e4m3⟩
  | .local _ .vmem, ⟨9, _⟩ => ⟨S1x32x5120, .fp8e4m3⟩
  | .local _ .vmem, ⟨10, _⟩ => ⟨S1x1x5120, .f32⟩
  | .local _ .vmem, ⟨11, _⟩ => ⟨S1x1x5120, .f32⟩
  | .local _ .vmem, ⟨12, _⟩ => ⟨S1x4x256x128, .bf16⟩
  | .local _ .vmem, ⟨13, _⟩ => ⟨S1x4x256x128, .bf16⟩
  | .local _ .vmem, ⟨14, _⟩ => ⟨S1x512x5120, .bf16⟩
  | .local _ .vmem, ⟨15, _⟩ => ⟨S1x512x5120, .bf16⟩
  | .local _ .vmem, ⟨16, _⟩ => ⟨S1x1x256, .f32⟩
  | .local _ .vmem, ⟨17, _⟩ => ⟨S1x1x256, .f32⟩
  | .local _ .vmem, ⟨18, _⟩ => ⟨S3x1x6912, .f32⟩
  | .local _ .vmem, ⟨19, _⟩ => ⟨S3x1x6912, .f32⟩
  | .local _ .vmem, ⟨20, _⟩ => ⟨S3x1x6912, .f32⟩
  | .local _ .vmem, ⟨21, _⟩ => ⟨S1x256x5120, .fp8e4m3⟩
  | .local _ .vmem, ⟨22, _⟩ => ⟨S1x256x5120, .fp8e4m3⟩
  | .local _ .vmem, ⟨23, _⟩ => ⟨S1x5120x256, .f32⟩
  | .local _ .vmem, ⟨24, _⟩ => ⟨S1x5120x256, .f32⟩
  | .local _ .vmem, ⟨25, _⟩ => ⟨S1x8x128, .f32⟩
  | .local _ .vmem, ⟨26, _⟩ => ⟨S1x8x128, .f32⟩
  | .local _ .vmem, ⟨27, _⟩ => ⟨S256x512, .bf16⟩
  | .local _ .vmem, ⟨28, _⟩ => ⟨S256x32, .fp8e4m3⟩
  | .local _ .vmem, ⟨29, _⟩ => ⟨S256x5120, .f32⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .smem, ⟨0, _⟩ => ⟨S3x4, .i32⟩
  | .local _ .smem, ⟨1, _⟩ => ⟨S3x4, .f32⟩
  | .local _ .smem, ⟨2, _⟩ => ⟨S3x4, .f32⟩
  | _, _ => ⟨S3x6912x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨2, ![3, 27], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg0 : BitVec 32 := BitVec.ofNat 32 (i 0).val
  let v3 : Index := Scalar.indexCast arg0
  let c0 : Index := 0#32
  ![v3.toNat, 0]
def k0_off2 (i : grid0.Coords) : Fin 2 → Nat :=
  let arg0 : BitVec 32 := BitVec.ofNat 32 (i 0).val
  let v29 : Index := Scalar.indexCast arg0
  let c1 : Index := 1#32
  ![v29.toNat, 1]
def k0_off3 (i : grid0.Coords) : Fin 2 → Nat :=
  let arg0 : BitVec 32 := BitVec.ofNat 32 (i 0).val
  let v55 : Index := Scalar.indexCast arg0
  let c2 : Index := 2#32
  ![v55.toNat, 2]
def k0_off4 (i : grid0.Coords) : Fin 2 → Nat :=
  let arg0 : BitVec 32 := BitVec.ofNat 32 (i 0).val
  let v81 : Index := Scalar.indexCast arg0
  let c3 : Index := 3#32
  ![v81.toNat, 3]
@[reducible] def k0_t1_loop : Scf.Loop 32 :=
  let c0_i32 : BitVec 32 := 0#32
  let c10_i32 : BitVec 32 := 10#32
  let v133 : BitVec 32 := Scalar.addi c0_i32 c10_i32
  let c1_i32 : BitVec 32 := 1#32
  ⟨c0_i32, v133, c1_i32⟩
def k0_mult2 (k0_t1 : Fin k0_t1_loop.trips) : BitVec 32 :=
  let c0_i32 : BitVec 32 := 0#32
  let c1_i32 : BitVec 32 := 1#32
  let arg27 : BitVec 32 := Scf.iv c0_i32 c1_i32 k0_t1
  let c512_i32 : BitVec 32 := 512#32
  let v216 : BitVec 32 := Scalar.muli arg27 c512_i32
  v216
def k0_off5 (k0_t1 : Fin k0_t1_loop.trips) : Fin 3 → Nat :=
  let c0_99 : Index := 0#32
  let c0_100 : Index := 0#32
  let c0_i32 : BitVec 32 := 0#32
  let c1_i32 : BitVec 32 := 1#32
  let arg27 : BitVec 32 := Scf.iv c0_i32 c1_i32 k0_t1
  let c512_i32 : BitVec 32 := 512#32
  let v216 : BitVec 32 := Scalar.muli arg27 c512_i32
  let v217 : BitVec 32 := v216
  let v219 : Index := Scalar.indexCast v217
  ![0, 0, v219.toNat]
def k0_off6 (k0_t1 : Fin k0_t1_loop.trips) : Fin 3 → Nat :=
  let c0_104 : Index := 0#32
  let c0_105 : Index := 0#32
  let c0_i32 : BitVec 32 := 0#32
  let c1_i32 : BitVec 32 := 1#32
  let arg27 : BitVec 32 := Scf.iv c0_i32 c1_i32 k0_t1
  let c512_i32 : BitVec 32 := 512#32
  let v216 : BitVec 32 := Scalar.muli arg27 c512_i32
  let v217 : BitVec 32 := v216
  let v224 : Index := Scalar.indexCast v217
  ![0, 0, v224.toNat]
def k0_mult3 (k0_t1 : Fin k0_t1_loop.trips) : BitVec 32 :=
  let c0_i32 : BitVec 32 := 0#32
  let c1_i32 : BitVec 32 := 1#32
  let arg27 : BitVec 32 := Scf.iv c0_i32 c1_i32 k0_t1
  let c512_i32_109 : BitVec 32 := 512#32
  let v229 : BitVec 32 := Scalar.muli arg27 c512_i32_109
  let c0_i32_110 : BitVec 32 := 0#32
  let v230 : BitVec 32 := Scalar.addi v229 c0_i32_110
  v230
def k0_off7 (k0_t1 : Fin k0_t1_loop.trips) (c0_i32_110 : BitVec 32) : Fin 3 → Nat :=
  let c0_111 : Index := 0#32
  let c0_112 : Index := 0#32
  let c0_i32 : BitVec 32 := 0#32
  let c1_i32 : BitVec 32 := 1#32
  let arg27 : BitVec 32 := Scf.iv c0_i32 c1_i32 k0_t1
  let c512_i32_109 : BitVec 32 := 512#32
  let v229 : BitVec 32 := Scalar.muli arg27 c512_i32_109
  let v230 : BitVec 32 := Scalar.addi v229 c0_i32_110
  let v231 : BitVec 32 := v230
  let v232 : Index := Scalar.indexCast v231
  ![0, 0, v232.toNat]
def k0_off8 (k0_t1 : Fin k0_t1_loop.trips) (c0_i32_110 : BitVec 32) : Fin 3 → Nat :=
  let c0_117 : Index := 0#32
  let c0_118 : Index := 0#32
  let c0_i32 : BitVec 32 := 0#32
  let c1_i32 : BitVec 32 := 1#32
  let arg27 : BitVec 32 := Scf.iv c0_i32 c1_i32 k0_t1
  let c512_i32_109 : BitVec 32 := 512#32
  let v229 : BitVec 32 := Scalar.muli arg27 c512_i32_109
  let v230 : BitVec 32 := Scalar.addi v229 c0_i32_110
  let v231 : BitVec 32 := v230
  let v241 : Index := Scalar.indexCast v231
  ![0, 0, v241.toNat]
def k0_off9 (k0_t1 : Fin k0_t1_loop.trips) (c0_i32_110 : BitVec 32) : Fin 2 → Nat :=
  let c0_119 : Index := 0#32
  let c0_i32 : BitVec 32 := 0#32
  let c1_i32 : BitVec 32 := 1#32
  let arg27 : BitVec 32 := Scf.iv c0_i32 c1_i32 k0_t1
  let c512_i32_109 : BitVec 32 := 512#32
  let v229 : BitVec 32 := Scalar.muli arg27 c512_i32_109
  let v230 : BitVec 32 := Scalar.addi v229 c0_i32_110
  let v231 : BitVec 32 := v230
  let v249 : Index := Scalar.indexCast v231
  ![0, v249.toNat]
def k0_mult4 (k0_t1 : Fin k0_t1_loop.trips) : BitVec 32 :=
  let c0_i32 : BitVec 32 := 0#32
  let c1_i32 : BitVec 32 := 1#32
  let arg27 : BitVec 32 := Scf.iv c0_i32 c1_i32 k0_t1
  let c512_i32_120 : BitVec 32 := 512#32
  let v255 : BitVec 32 := Scalar.muli arg27 c512_i32_120
  let c128_i32 : BitVec 32 := 128#32
  let v256 : BitVec 32 := Scalar.addi v255 c128_i32
  v256
def k0_mult5 (k0_t1 : Fin k0_t1_loop.trips) : BitVec 32 :=
  let c0_i32 : BitVec 32 := 0#32
  let c1_i32 : BitVec 32 := 1#32
  let arg27 : BitVec 32 := Scf.iv c0_i32 c1_i32 k0_t1
  let c512_i32_130 : BitVec 32 := 512#32
  let v281 : BitVec 32 := Scalar.muli arg27 c512_i32_130
  let c256_i32_131 : BitVec 32 := 256#32
  let v282 : BitVec 32 := Scalar.addi v281 c256_i32_131
  v282
def k0_mult6 (k0_t1 : Fin k0_t1_loop.trips) : BitVec 32 :=
  let c0_i32 : BitVec 32 := 0#32
  let c1_i32 : BitVec 32 := 1#32
  let arg27 : BitVec 32 := Scf.iv c0_i32 c1_i32 k0_t1
  let c512_i32_141 : BitVec 32 := 512#32
  let v307 : BitVec 32 := Scalar.muli arg27 c512_i32_141
  let c384_i32 : BitVec 32 := 384#32
  let v308 : BitVec 32 := Scalar.addi v307 c384_i32
  v308
def k0_off10 (i : grid0.Coords) : Fin 3 → Nat :=
  let arg0 : BitVec 32 := BitVec.ofNat 32 (i 0).val
  let v142 : Index := Scalar.indexCast arg0
  let c0_54 : Index := 0#32
  let arg1 : BitVec 32 := BitVec.ofNat 32 (i 1).val
  let c256_i32 : BitVec 32 := 256#32
  let v0 : BitVec 32 := Scalar.muli arg1 c256_i32
  let v1 : BitVec 32 := v0
  let v143 : Index := Scalar.indexCast v1
  ![v142.toNat, 0, v143.toNat]
@[reducible] def k0_t2_loop : Scf.Loop 32 :=
  let c0_i32_65 : BitVec 32 := 0#32
  let c10_i32_66 : BitVec 32 := 10#32
  let v164 : BitVec 32 := Scalar.addi c0_i32_65 c10_i32_66
  let c1_i32_67 : BitVec 32 := 1#32
  ⟨c0_i32_65, v164, c1_i32_67⟩
def k0_mult7 (k0_t2 : Fin k0_t2_loop.trips) : BitVec 32 :=
  let c0_i32_65 : BitVec 32 := 0#32
  let c1_i32_67 : BitVec 32 := 1#32
  let arg27 : BitVec 32 := Scf.iv c0_i32_65 c1_i32_67 k0_t2
  let c512_i32 : BitVec 32 := 512#32
  let v216 : BitVec 32 := Scalar.muli arg27 c512_i32
  v216
def k0_off11 (k0_t2 : Fin k0_t2_loop.trips) : Fin 3 → Nat :=
  let c0_99 : Index := 0#32
  let c128_100 : Index := 128#32
  let c0_i32_65 : BitVec 32 := 0#32
  let c1_i32_67 : BitVec 32 := 1#32
  let arg27 : BitVec 32 := Scf.iv c0_i32_65 c1_i32_67 k0_t2
  let c512_i32 : BitVec 32 := 512#32
  let v216 : BitVec 32 := Scalar.muli arg27 c512_i32
  let v217 : BitVec 32 := v216
  let v219 : Index := Scalar.indexCast v217
  ![0, 128, v219.toNat]
def k0_mult8 (k0_t2 : Fin k0_t2_loop.trips) : BitVec 32 :=
  let c0_i32_65 : BitVec 32 := 0#32
  let c1_i32_67 : BitVec 32 := 1#32
  let arg27 : BitVec 32 := Scf.iv c0_i32_65 c1_i32_67 k0_t2
  let c512_i32_104 : BitVec 32 := 512#32
  let v224 : BitVec 32 := Scalar.muli arg27 c512_i32_104
  let c0_i32_105 : BitVec 32 := 0#32
  let v225 : BitVec 32 := Scalar.addi v224 c0_i32_105
  v225
def k0_off12 (k0_t2 : Fin k0_t2_loop.trips) (c0_i32_105 : BitVec 32) : Fin 2 → Nat :=
  let c0_106 : Index := 0#32
  let c0_i32_65 : BitVec 32 := 0#32
  let c1_i32_67 : BitVec 32 := 1#32
  let arg27 : BitVec 32 := Scf.iv c0_i32_65 c1_i32_67 k0_t2
  let c512_i32_104 : BitVec 32 := 512#32
  let v224 : BitVec 32 := Scalar.muli arg27 c512_i32_104
  let v225 : BitVec 32 := Scalar.addi v224 c0_i32_105
  let v226 : BitVec 32 := v225
  let v227 : Index := Scalar.indexCast v226
  ![0, v227.toNat]
def k0_mult9 (k0_t2 : Fin k0_t2_loop.trips) : BitVec 32 :=
  let c0_i32_65 : BitVec 32 := 0#32
  let c1_i32_67 : BitVec 32 := 1#32
  let arg27 : BitVec 32 := Scf.iv c0_i32_65 c1_i32_67 k0_t2
  let c512_i32_110 : BitVec 32 := 512#32
  let v239 : BitVec 32 := Scalar.muli arg27 c512_i32_110
  let c128_i32 : BitVec 32 := 128#32
  let v240 : BitVec 32 := Scalar.addi v239 c128_i32
  v240
def k0_mult10 (k0_t2 : Fin k0_t2_loop.trips) : BitVec 32 :=
  let c0_i32_65 : BitVec 32 := 0#32
  let c1_i32_67 : BitVec 32 := 1#32
  let arg27 : BitVec 32 := Scf.iv c0_i32_65 c1_i32_67 k0_t2
  let c512_i32_115 : BitVec 32 := 512#32
  let v254 : BitVec 32 := Scalar.muli arg27 c512_i32_115
  let c256_i32_116 : BitVec 32 := 256#32
  let v255 : BitVec 32 := Scalar.addi v254 c256_i32_116
  v255
def k0_mult11 (k0_t2 : Fin k0_t2_loop.trips) : BitVec 32 :=
  let c0_i32_65 : BitVec 32 := 0#32
  let c1_i32_67 : BitVec 32 := 1#32
  let arg27 : BitVec 32 := Scf.iv c0_i32_65 c1_i32_67 k0_t2
  let c512_i32_121 : BitVec 32 := 512#32
  let v269 : BitVec 32 := Scalar.muli arg27 c512_i32_121
  let c384_i32 : BitVec 32 := 384#32
  let v270 : BitVec 32 := Scalar.addi v269 c384_i32
  v270
@[reducible] def k0_t3_loop : Scf.Loop 32 :=
  let c0_i32_89 : BitVec 32 := 0#32
  let c10_i32_90 : BitVec 32 := 10#32
  let v203 : BitVec 32 := Scalar.addi c0_i32_89 c10_i32_90
  let c1_i32_91 : BitVec 32 := 1#32
  ⟨c0_i32_89, v203, c1_i32_91⟩
def k0_mult12 (k0_t3 : Fin k0_t3_loop.trips) : BitVec 32 :=
  let c0_i32_89 : BitVec 32 := 0#32
  let c1_i32_91 : BitVec 32 := 1#32
  let arg27 : BitVec 32 := Scf.iv c0_i32_89 c1_i32_91 k0_t3
  let c512_i32 : BitVec 32 := 512#32
  let v217 : BitVec 32 := Scalar.muli arg27 c512_i32
  let c0_i32_99 : BitVec 32 := 0#32
  let v218 : BitVec 32 := Scalar.addi v217 c0_i32_99
  v218
def k0_off13 (k0_t3 : Fin k0_t3_loop.trips) (c0_i32_99 : BitVec 32) : Fin 2 → Nat :=
  let c0_100 : Index := 0#32
  let c0_i32_89 : BitVec 32 := 0#32
  let c1_i32_91 : BitVec 32 := 1#32
  let arg27 : BitVec 32 := Scf.iv c0_i32_89 c1_i32_91 k0_t3
  let c512_i32 : BitVec 32 := 512#32
  let v217 : BitVec 32 := Scalar.muli arg27 c512_i32
  let v218 : BitVec 32 := Scalar.addi v217 c0_i32_99
  let v219 : BitVec 32 := v218
  let v220 : Index := Scalar.indexCast v219
  ![0, v220.toNat]
def k0_off14 (k0_t3 : Fin k0_t3_loop.trips) (c0_i32_99 : BitVec 32) : Fin 3 → Nat :=
  let c0_101 : Index := 0#32
  let c0_i32_89 : BitVec 32 := 0#32
  let c1_i32_91 : BitVec 32 := 1#32
  let arg27 : BitVec 32 := Scf.iv c0_i32_89 c1_i32_91 k0_t3
  let c512_i32 : BitVec 32 := 512#32
  let v217 : BitVec 32 := Scalar.muli arg27 c512_i32
  let v218 : BitVec 32 := Scalar.addi v217 c0_i32_99
  let v219 : BitVec 32 := v218
  let v223 : Index := Scalar.indexCast v219
  let c0_102 : Index := 0#32
  ![0, v223.toNat, 0]
def k0_off15 (k0_t3 : Fin k0_t3_loop.trips) (c0_i32_99 : BitVec 32) : Fin 3 → Nat :=
  let c0_107 : Index := 0#32
  let c0_108 : Index := 0#32
  let c0_i32_89 : BitVec 32 := 0#32
  let c1_i32_91 : BitVec 32 := 1#32
  let arg27 : BitVec 32 := Scf.iv c0_i32_89 c1_i32_91 k0_t3
  let c512_i32 : BitVec 32 := 512#32
  let v217 : BitVec 32 := Scalar.muli arg27 c512_i32
  let v218 : BitVec 32 := Scalar.addi v217 c0_i32_99
  let v219 : BitVec 32 := v218
  let v234 : Index := Scalar.indexCast v219
  ![0, 0, v234.toNat]
def k0_mult13 (k0_t3 : Fin k0_t3_loop.trips) : BitVec 32 :=
  let c0_i32_89 : BitVec 32 := 0#32
  let c1_i32_91 : BitVec 32 := 1#32
  let arg27 : BitVec 32 := Scf.iv c0_i32_89 c1_i32_91 k0_t3
  let c512_i32_111 : BitVec 32 := 512#32
  let v244 : BitVec 32 := Scalar.muli arg27 c512_i32_111
  let c128_i32 : BitVec 32 := 128#32
  let v245 : BitVec 32 := Scalar.addi v244 c128_i32
  v245
def k0_mult14 (k0_t3 : Fin k0_t3_loop.trips) : BitVec 32 :=
  let c0_i32_89 : BitVec 32 := 0#32
  let c1_i32_91 : BitVec 32 := 1#32
  let arg27 : BitVec 32 := Scf.iv c0_i32_89 c1_i32_91 k0_t3
  let c512_i32_123 : BitVec 32 := 512#32
  let v271 : BitVec 32 := Scalar.muli arg27 c512_i32_123
  let c256_i32_124 : BitVec 32 := 256#32
  let v272 : BitVec 32 := Scalar.addi v271 c256_i32_124
  v272
def k0_mult15 (k0_t3 : Fin k0_t3_loop.trips) : BitVec 32 :=
  let c0_i32_89 : BitVec 32 := 0#32
  let c1_i32_91 : BitVec 32 := 1#32
  let arg27 : BitVec 32 := Scf.iv c0_i32_89 c1_i32_91 k0_t3
  let c512_i32_136 : BitVec 32 := 512#32
  let v298 : BitVec 32 := Scalar.muli arg27 c512_i32_136
  let c384_i32 : BitVec 32 := 384#32
  let v299 : BitVec 32 := Scalar.addi v298 c384_i32
  v299
def k0_cond1 (i : grid0.Coords) : BitVec 1 :=
  let arg1 : BitVec 32 := BitVec.ofNat 32 (i 1).val
  let c0_i32_77 : BitVec 32 := 0#32
  let v185 : BitVec 1 := Scalar.cmpi .eq arg1 c0_i32_77
  let v186 : BitVec 32 := Scalar.extui v185
  let c0_i32_78 : BitVec 32 := 0#32
  let v187 : BitVec 1 := Scalar.cmpi .ne v186 c0_i32_78
  v187

def k0_cond2 (i : grid0.Coords) : BitVec 1 :=
  let arg1 : BitVec 32 := BitVec.ofNat 32 (i 1).val
  let c0_i32_79 : BitVec 32 := 0#32
  let v188 : BitVec 1 := Scalar.cmpi .sgt arg1 c0_i32_79
  let v189 : BitVec 32 := Scalar.extui v188
  let c0_i32_80 : BitVec 32 := 0#32
  let v190 : BitVec 1 := Scalar.cmpi .ne v189 c0_i32_80
  v190

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S3x4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S3x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S3x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x5120 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x5120 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x5120 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x4x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x5120 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S3x1x6912 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S3x1x6912 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S3x1x6912 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x5120 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x5120x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== ReferenceIdeal.lean ====
abbrev S3x6912x5120 : Shape := ⟨3, ![3, 6912, 5120]⟩
abbrev S3x6912 : Shape := ⟨2, ![3, 6912]⟩
abbrev S3x6912x32 : Shape := ⟨3, ![3, 6912, 32]⟩
abbrev S3x32x5120 : Shape := ⟨3, ![3, 32, 5120]⟩
abbrev S3x5120 : Shape := ⟨2, ![3, 5120]⟩
abbrev S3x4x6912x128 : Shape := ⟨4, ![3, 4, 6912, 128]⟩
abbrev S3x4x128x5120 : Shape := ⟨4, ![3, 4, 128, 5120]⟩
abbrev S3x4 : Shape := ⟨2, ![3, 4]⟩
abbrev S3x1x6912 : Shape := ⟨3, ![3, 1, 6912]⟩
abbrev S3x5120x6912 : Shape := ⟨3, ![3, 5120, 6912]⟩
abbrev S3x6912x1 : Shape := ⟨3, ![3, 6912, 1]⟩
abbrev S3x1x5120 : Shape := ⟨3, ![3, 1, 5120]⟩
abbrev S3x4x1x1 : Shape := ⟨4, ![3, 4, 1, 1]⟩
abbrev S3x6912x4x128 : Shape := ⟨4, ![3, 6912, 4, 128]⟩
abbrev S3x6912x512 : Shape := ⟨3, ![3, 6912, 512]⟩
abbrev S3x512x5120 : Shape := ⟨3, ![3, 512, 5120]⟩
abbrev S3x6912x128 : Shape := ⟨3, ![3, 6912, 128]⟩
abbrev S3x128x5120 : Shape := ⟨3, ![3, 128, 5120]⟩
abbrev S3x6912x384 : Shape := ⟨3, ![3, 6912, 384]⟩
abbrev S3x384x5120 : Shape := ⟨3, ![3, 384, 5120]⟩

abbrev nBuf : Space → Nat
  | .hbm => 17
  | .vmem => 17
  | .smem => 0
  | _ => 0

abbrev bufTy : (tb : Table) → Fin (tcTables nBuf tb) → BufTy
  | .hbm, ⟨0, _⟩ => ⟨S3x6912x5120, .fp8e4m3⟩
  | .hbm, ⟨1, _⟩ => ⟨S3x6912, .f32⟩
  | .hbm, ⟨2, _⟩ => ⟨S3x6912x32, .fp8e4m3⟩
  | .hbm, ⟨3, _⟩ => ⟨S3x6912, .f32⟩
  | .hbm, ⟨4, _⟩ => ⟨S3x32x5120, .fp8e4m3⟩
  | .hbm, ⟨5, _⟩ => ⟨S3x5120, .f32⟩
  | .hbm, ⟨6, _⟩ => ⟨S3x4x6912x128, .bf16⟩
  | .hbm, ⟨7, _⟩ => ⟨S3x4x128x5120, .bf16⟩
  | .hbm, ⟨8, _⟩ => ⟨S3x4, .i32⟩
  | .hbm, ⟨9, _⟩ => ⟨S3x4, .f32⟩
  | .hbm, ⟨10, _⟩ => ⟨S3x4, .f32⟩
  | .hbm, ⟨11, _⟩ => ⟨S3x6912, .f32⟩
  | .hbm, ⟨12, _⟩ => ⟨S3x1x6912, .f32⟩
  | .hbm, ⟨13, _⟩ => ⟨S3x1x6912, .f32⟩
  | .hbm, ⟨14, _⟩ => ⟨S3x1x6912, .f32⟩
  | .hbm, ⟨15, _⟩ => ⟨S3x6912x5120, .fp8e4m3⟩
  | .hbm, ⟨16, _⟩ => ⟨S3x5120x6912, .f32⟩
  | .local _ .vmem, ⟨0, _⟩ => ⟨S3x6912x5120, .fp8e4m3⟩
  | .local _ .vmem, ⟨1, _⟩ => ⟨S3x6912, .f32⟩
  | .local _ .vmem, ⟨2, _⟩ => ⟨S3x6912x32, .fp8e4m3⟩
  | .local _ .vmem, ⟨3, _⟩ => ⟨S3x6912, .f32⟩
  | .local _ .vmem, ⟨4, _⟩ => ⟨S3x32x5120, .fp8e4m3⟩
  | .local _ .vmem, ⟨5, _⟩ => ⟨S3x5120, .f32⟩
  | .local _ .vmem, ⟨6, _⟩ => ⟨S3x4x6912x128, .bf16⟩
  | .local _ .vmem, ⟨7, _⟩ => ⟨S3x4x128x5120, .bf16⟩
  | .local _ .vmem, ⟨8, _⟩ => ⟨S3x4, .i32⟩
  | .local _ .vmem, ⟨9, _⟩ => ⟨S3x4, .f32⟩
  | .local _ .vmem, ⟨10, _⟩ => ⟨S3x4, .f32⟩
  | .local _ .vmem, ⟨11, _⟩ => ⟨S3x6912, .f32⟩
  | .local _ .vmem, ⟨12, _⟩ => ⟨S3x1x6912, .f32⟩
  | .local _ .vmem, ⟨13, _⟩ => ⟨S3x1x6912, .f32⟩
  | .local _ .vmem, ⟨14, _⟩ => ⟨S3x1x6912, .f32⟩
  | .local _ .vmem, ⟨15, _⟩ => ⟨S3x6912x5120, .fp8e4m3⟩
  | .local _ .vmem, ⟨16, _⟩ => ⟨S3x5120x6912, .f32⟩
  | _, _ => ⟨S3x6912x5120, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S3x6912x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x6912 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x6912x32 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x6912 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x32x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x4x6912x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x4x128x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x4 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x6912 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x1x6912 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x1x6912 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x1x6912 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x6912x5120 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x5120x6912 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.KShared.lean ====
/- What the runs of the kernel body share (Kernel): the frame claim's post read off a run whose output arrays are
   described by relations, the branch conditions of the body over the grid points, and the staging and scratch memrefs. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

set_option maxHeartbeats 1080000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 3 rfl).trans ((hA c 3).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 7 rfl).trans ((hA c 7).trans (V_main_arg4 m c)),
      ((h c).2 main_arg5 (Pipeline.mem_restRefs_of main_arg5 (by decide) (by decide))).trans (V_main_arg5 m c),
      (Pipeline.RDat.FramePost.arr_in h c 9 rfl).trans ((hA c 9).trans (V_main_arg6 m c)),
      ((h c).2 main_arg7 (Pipeline.mem_restRefs_of main_arg7 (by decide) (by decide))).trans (V_main_arg7 m c),
      (Pipeline.RDat.FramePost.arr_in h c 0 rfl).trans ((hA c 0).trans (V_main_arg8 m c)),
      (Pipeline.RDat.FramePost.arr_in h c 1 rfl).trans ((hA c 1).trans (V_main_arg9 m c)),
      (Pipeline.RDat.FramePost.arr_in h c 2 rfl).trans ((hA c 2).trans (V_main_arg10 m c)),
      ((h c).2 main_arg11 (Pipeline.mem_restRefs_of main_arg11 (by decide) (by decide))).trans (V_main_arg11 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 27) — by arithmetic of the point. -/
theorem hcond0_0 : ∀ t : Fin cfg0.N, cond0_0 (grid0.coords t) ↔ t.val % 27 = 0 :=
  (fun t => by
    have ht : t.val < 81 := Nat.lt_of_lt_of_eq t.isLt N_0
    have e0 : (grid0.coords t 0).val = t.val / 27 % 3 := Pipeline.Grid.coords_val t 0 (by decide) rfl
    have e1 : (grid0.coords t 1).val = t.val / 1 % 27 := Pipeline.Grid.coords_val t 1 (by decide) rfl
    simp only [cond0_0, k0_cond1, e0, e1]
    word_cmp
   : ∀ t : Fin grid0.N, cond0_0 (grid0.coords t) ↔ t.val % 27 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 27 :=
  (by decide +kernel : ∀ t : Fin grid0.N, cond0_1 (grid0.coords t) ↔ 1 ≤ t.val % 27)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S3x4 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S3x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S3x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x5120 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32x5120 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x5120 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x4x256x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x5120 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S3x1x6912 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S3x1x6912 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S3x1x6912 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256x5120 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x5120x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x8x128 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S256x512 .bf16 := Memref.whole cc0_scratch0
abbrev scM0_1 : Memref sig .tc .vmem S256x32 .fp8e4m3 := Memref.whole cc0_scratch1
abbrev scM0_2 : Memref sig .tc .vmem S256x5120 .f32 := Memref.whole cc0_scratch2
abbrev scM0_3 : Memref sig .tc .vmem S256x128 .f32 := Memref.whole cc0_scratch3
abbrev scM0_4 : Memref sig .tc .vmem S256x128 .f32 := Memref.whole cc0_scratch4
abbrev scM0_5 : Memref sig .tc .vmem S256x128 .f32 := Memref.whole cc0_scratch5
abbrev scM0_6 : Memref sig .tc .vmem S256x128 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Gen

end
-- ==== Proof.KRunA.lean ====
/- The body of the kernel run once, on whole staging buffers, at the points where the first row block of a batch is met. -/
module

public import proofs.«01_k».proof.Proof.KShared

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 not taken: points 0, 27, 54): on whole staging memrefs — the inputs' at their contents,
    the FORGOTTEN outputs' (12, 13, 14, 15, 16, 17) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .smem S3x4 .i32) (harg2 : arg2.IsWhole) (arg3 : Memref sig .tc .smem S3x4 .f32) (harg3 : arg3.IsWhole) (arg4 : Memref sig .tc .smem S3x4 .f32) (harg4 : arg4.IsWhole) (arg5 : Memref sig .tc .vmem S1x256x5120 .fp8e4m3) (harg5 : arg5.IsWhole) (arg6 : Memref sig .tc .vmem S1x1x256 .f32) (harg6 : arg6.IsWhole) (arg7 : Memref sig .tc .vmem S1x32x256 .fp8e4m3) (harg7 : arg7.IsWhole) (arg8 : Memref sig .tc .vmem S1x1x256 .f32) (harg8 : arg8.IsWhole) (arg9 : Memref sig .tc .vmem S1x32x5120 .fp8e4m3) (harg9 : arg9.IsWhole) (arg10 : Memref sig .tc .vmem S1x1x5120 .f32) (harg10 : arg10.IsWhole) (arg11 : Memref sig .tc .vmem S1x4x256x128 .bf16) (harg11 : arg11.IsWhole) (arg12 : Memref sig .tc .vmem S1x512x5120 .bf16) (harg12 : arg12.IsWhole) (arg13 : Memref sig .tc .vmem S1x1x256 .f32) (harg13 : arg13.IsWhole) (arg14 : Memref sig .tc .vmem S3x1x6912 .f32) (harg14 : arg14.IsWhole) (arg15 : Memref sig .tc .vmem S3x1x6912 .f32) (harg15 : arg15.IsWhole) (arg16 : Memref sig .tc .vmem S3x1x6912 .f32) (harg16 : arg16.IsWhole) (arg17 : Memref sig .tc .vmem S1x256x5120 .fp8e4m3) (harg17 : arg17.IsWhole) (arg18 : Memref sig .tc .vmem S1x5120x256 .f32) (harg18 : arg18.IsWhole) (arg19 : Memref sig .tc .vmem S1x8x128 .f32) (harg19 : arg19.IsWhole) (arg20 : Memref sig .tc .vmem S256x512 .bf16) (harg20 : arg20.IsWhole) (arg21 : Memref sig .tc .vmem S256x32 .fp8e4m3) (harg21 : arg21.IsWhole) (arg22 : Memref sig .tc .vmem S256x5120 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (hc0 : cond0_0 i) (hc1 : ¬cond0_1 i)
    (x0 : Vec F S3x4 .i32) (x1 : Vec F S3x4 .f32) (x2 : Vec F S3x4 .f32) (x3 : Vec F S1x256x5120 .fp8e4m3) (x4 : Vec F S1x1x256 .f32) (x5 : Vec F S1x32x256 .fp8e4m3) (x6 : Vec F S1x1x256 .f32) (x7 : Vec F S1x32x5120 .fp8e4m3) (x8 : Vec F S1x1x5120 .f32) (x9 : Vec F S1x4x256x128 .bf16) (x10 : Vec F S1x512x5120 .bf16) (x11 : Vec F S1x1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    intro E K
    simp only [cc0_merge_eq_skeleton]; unfold cc0_merge_skel
    simp only [k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Gen

end
-- ==== Proof.KRunB.lean ====
/- The body of the kernel run once, on whole staging buffers, at the points where the first row block of a batch is past. -/
module

public import proofs.«01_k».proof.Proof.KRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken, `scf.if` 1 taken: points 1, 2, … 80: 78 of 81): on whole staging memrefs — the inputs' at their contents,
    the FORGOTTEN outputs' (12, 13, 14, 15, 16, 17) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .smem S3x4 .i32) (harg2 : arg2.IsWhole) (arg3 : Memref sig .tc .smem S3x4 .f32) (harg3 : arg3.IsWhole) (arg4 : Memref sig .tc .smem S3x4 .f32) (harg4 : arg4.IsWhole) (arg5 : Memref sig .tc .vmem S1x256x5120 .fp8e4m3) (harg5 : arg5.IsWhole) (arg6 : Memref sig .tc .vmem S1x1x256 .f32) (harg6 : arg6.IsWhole) (arg7 : Memref sig .tc .vmem S1x32x256 .fp8e4m3) (harg7 : arg7.IsWhole) (arg8 : Memref sig .tc .vmem S1x1x256 .f32) (harg8 : arg8.IsWhole) (arg9 : Memref sig .tc .vmem S1x32x5120 .fp8e4m3) (harg9 : arg9.IsWhole) (arg10 : Memref sig .tc .vmem S1x1x5120 .f32) (harg10 : arg10.IsWhole) (arg11 : Memref sig .tc .vmem S1x4x256x128 .bf16) (harg11 : arg11.IsWhole) (arg12 : Memref sig .tc .vmem S1x512x5120 .bf16) (harg12 : arg12.IsWhole) (arg13 : Memref sig .tc .vmem S1x1x256 .f32) (harg13 : arg13.IsWhole) (arg14 : Memref sig .tc .vmem S3x1x6912 .f32) (harg14 : arg14.IsWhole) (arg15 : Memref sig .tc .vmem S3x1x6912 .f32) (harg15 : arg15.IsWhole) (arg16 : Memref sig .tc .vmem S3x1x6912 .f32) (harg16 : arg16.IsWhole) (arg17 : Memref sig .tc .vmem S1x256x5120 .fp8e4m3) (harg17 : arg17.IsWhole) (arg18 : Memref sig .tc .vmem S1x5120x256 .f32) (harg18 : arg18.IsWhole) (arg19 : Memref sig .tc .vmem S1x8x128 .f32) (harg19 : arg19.IsWhole) (arg20 : Memref sig .tc .vmem S256x512 .bf16) (harg20 : arg20.IsWhole) (arg21 : Memref sig .tc .vmem S256x32 .fp8e4m3) (harg21 : arg21.IsWhole) (arg22 : Memref sig .tc .vmem S256x5120 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (hc0 : ¬cond0_0 i) (hc1 : cond0_1 i)
    (x0 : Vec F S3x4 .i32) (x1 : Vec F S3x4 .f32) (x2 : Vec F S3x4 .f32) (x3 : Vec F S1x256x5120 .fp8e4m3) (x4 : Vec F S1x1x256 .f32) (x5 : Vec F S1x32x256 .fp8e4m3) (x6 : Vec F S1x1x256 .f32) (x7 : Vec F S1x32x5120 .fp8e4m3) (x8 : Vec F S1x1x5120 .f32) (x9 : Vec F S1x4x256x128 .bf16) (x10 : Vec F S1x512x5120 .bf16) (x11 : Vec F S1x1x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := F)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    intro E K
    simp only [cc0_merge_eq_skeleton]; unfold cc0_merge_skel
    simp only [k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

end Cert.Kernel.Gen

end
-- ==== Proof.KForget.lean ====
/- The frame of the kernel program over any values: every execution ends, the argument arrays end as they were and every
   semaphore ends at zero. -/
module

public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (12, 13, 14, 15, 16, 17): nothing reads what the kernel leaves in them, so nothing
    of it is named (Lib/Pipeline/Dat.lean `Dat.toRForget`). -/
def forgets0 : Fin 18 → Bool := fun w => w.val == 12 || w.val == 13 || w.val == 14 || w.val == 15 || w.val == 16 || w.val == 17

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨_ + 18, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (∃ d, owns (c : Thread nD τ) (ms0_12 t) fullShare d)
    ∗ (∃ d, owns (c : Thread nD τ) (ms0_13 t) fullShare d)
    ∗ (∃ d, owns (c : Thread nD τ) (ms0_14 t) fullShare d)
    ∗ (∃ d, owns (c : Thread nD τ) (ms0_15 t) fullShare d)
    ∗ (∃ d, owns (c : Thread nD τ) (ms0_16 t) fullShare d)
    ∗ (∃ d, owns (c : Thread nD τ) (ms0_17 t) fullShare d))

set_option maxHeartbeats 4800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 81 := lt_of_lt_of_eq t.isLt (show cfg0.N = 81 from N_0)
  by_cases h0 : t.val % 27 = 0
  · by_cases h1 : 1 ≤ t.val % 27
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, H9, H10, H11, H12, H13, H14, H15, H16, H17, HS0, HS1, HS2, HS3, HS4, HS5, HS6⟩
      isplitl [HS0 HS1 HS2 HS3 HS4 HS5 HS6 Hg]
      · isplitl [HS0 HS1 HS2 HS3 HS4 HS5 HS6]
        · isplitl [HS0]
          · iexact HS0
          isplitl [HS1]
          · iexact HS1
          isplitl [HS2]
          · iexact HS2
          isplitl [HS3]
          · iexact HS3
          isplitl [HS4]
          · iexact HS4
          isplitl [HS5]
          · iexact HS5
          iexact HS6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
  · by_cases h1 : 1 ≤ t.val % 27
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      iintro ⟨H0, H1, H2, H3, H4, H5, H6, H7, H8, H9, H10, H11, H12, H13, H14, H15, H16, H17, HS0, HS1, HS2, HS3, HS4, HS5, HS6⟩
      isplitl [HS0 HS1 HS2 HS3 HS4 HS5 HS6 Hg]
      · isplitl [HS0 HS1 HS2 HS3 HS4 HS5 HS6]
        · isplitl [HS0]
          · iexact HS0
          isplitl [HS1]
          · iexact HS1
          isplitl [HS2]
          · iexact HS2
          isplitl [HS3]
          · iexact HS3
          isplitl [HS4]
          · iexact HS4
          isplitl [HS5]
          · iexact HS5
          iexact HS6
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 12, 13, 14, 15, 16, 17) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_ofR m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.Kernel.Gen

end
-- ==== Proof.IShared.lean ====
/- What the runs of the kernel body share (KernelIdeal): the frame claim's post read off a run whose output arrays are
   described by relations, the branch conditions of the body over the grid points, and the staging and scratch memrefs. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

set_option maxHeartbeats 1080000 in
/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(Pipeline.RDat.FramePost.arr_in h c 3 rfl).trans ((hA c 3).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 7 rfl).trans ((hA c 7).trans (V_main_arg4 m c)),
      ((h c).2 main_arg5 (Pipeline.mem_restRefs_of main_arg5 (by decide) (by decide))).trans (V_main_arg5 m c),
      (Pipeline.RDat.FramePost.arr_in h c 9 rfl).trans ((hA c 9).trans (V_main_arg6 m c)),
      ((h c).2 main_arg7 (Pipeline.mem_restRefs_of main_arg7 (by decide) (by decide))).trans (V_main_arg7 m c),
      (Pipeline.RDat.FramePost.arr_in h c 0 rfl).trans ((hA c 0).trans (V_main_arg8 m c)),
      (Pipeline.RDat.FramePost.arr_in h c 1 rfl).trans ((hA c 1).trans (V_main_arg9 m c)),
      (Pipeline.RDat.FramePost.arr_in h c 2 rfl).trans ((hA c 2).trans (V_main_arg10 m c)),
      ((h c).2 main_arg11 (Pipeline.mem_restRefs_of main_arg11 (by decide) (by decide))).trans (V_main_arg11 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 27) — by arithmetic of the point. -/
theorem hcond0_0 : ∀ t : Fin cfg0.N, cond0_0 (grid0.coords t) ↔ t.val % 27 = 0 :=
  (fun t => by
    have ht : t.val < 81 := Nat.lt_of_lt_of_eq t.isLt N_0
    have e0 : (grid0.coords t 0).val = t.val / 27 % 3 := Pipeline.Grid.coords_val t 0 (by decide) rfl
    have e1 : (grid0.coords t 1).val = t.val / 1 % 27 := Pipeline.Grid.coords_val t 1 (by decide) rfl
    simp only [cond0_0, k0_cond1, e0, e1]
    word_cmp
   : ∀ t : Fin grid0.N, cond0_0 (grid0.coords t) ↔ t.val % 27 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i1 — decided over the grid. -/
theorem hcond0_1 : ∀ t : Fin cfg0.N, cond0_1 (grid0.coords t) ↔ 1 ≤ t.val % 27 :=
  (by decide +kernel : ∀ t : Fin grid0.N, cond0_1 (grid0.coords t) ↔ 1 ≤ t.val % 27)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S3x4 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S3x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S3x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x5120 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x32x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32x5120 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x5120 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x4x256x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x512x5120 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S3x1x6912 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S3x1x6912 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S3x1x6912 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x256x5120 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x5120x256 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x8x128 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S256x512 .bf16 := Memref.whole cc0_scratch0
abbrev scM0_1 : Memref sig .tc .vmem S256x32 .fp8e4m3 := Memref.whole cc0_scratch1
abbrev scM0_2 : Memref sig .tc .vmem S256x5120 .f32 := Memref.whole cc0_scratch2
abbrev scM0_3 : Memref sig .tc .vmem S256x128 .f32 := Memref.whole cc0_scratch3
abbrev scM0_4 : Memref sig .tc .vmem S256x128 .f32 := Memref.whole cc0_scratch4
abbrev scM0_5 : Memref sig .tc .vmem S256x128 .f32 := Memref.whole cc0_scratch5
abbrev scM0_6 : Memref sig .tc .vmem S256x128 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Gen

end
-- ==== Proof.Row.lean ====
/- One row of a projection, over the extended reals: what the merge computes of it. Everything the merge returns about an
   output row depends on that row's own codes, scales and adapter coefficients and on the arrays shared by all rows. -/
module

public import Idealize.ShloMosaic.Lib.ValueIdx
public import Idealize.ShloMosaic.PureOps.Ideal

@[expose] public section

noncomputable section

namespace Cert.Merge

open Idealize.ShloMosaic

/-- What one output row is computed from: its codes `wc` and scale `ws`, its low-rank factor `l1` and scale `l1s`, the
    shared low-rank factor `l2` with a scale `l2s` per column, its four adapters' scaled and masked factors side by side
    in `be`, the shared adapter factors stacked in `la`, and its magnitude `m`. -/
structure Row where
  wc : Fin 5120 → EReal
  ws : EReal
  l1 : Fin 32 → EReal
  l1s : EReal
  l2 : Fin 32 → Fin 5120 → EReal
  l2s : Fin 5120 → EReal
  be : Fin 512 → EReal
  la : Fin 512 → Fin 5120 → EReal
  m : EReal

/-- An adapter's coefficient: its strength times its alpha over its rank. -/
def coef (strength alpha : EReal) (rank : BitVec 32) : EReal :=
  Ideal.div (strength * alpha) ((rank.toInt : ℝ) : EReal)

/-- An adapter's factor at a lane: scaled where the lane is below the rank, zero from there on. -/
def cell (b strength alpha : EReal) (rank : BitVec 32) (lane : ℕ) : EReal :=
  if (BitVec.ofNat 32 lane).slt rank then b * coef strength alpha rank else 0

namespace Row

variable (R : Row)

/-- The weight before renormalisation: codes times scale, plus the low-rank correction, plus the first adapter. -/
def v (k : Fin 5120) : EReal :=
  R.wc k * R.ws + (∑ j : Fin 32, R.l1 j * R.l2 j k) * R.l1s * R.l2s k
    + ∑ q : Fin 128, R.be (q.castLE (by decide)) * R.la (q.castLE (by decide)) k

/-- The row's norm. -/
def norm : EReal := Ideal.sqrt (∑ k, R.v k * R.v k)

/-- The norm, or one where it is zero. -/
def nd : EReal := if R.norm = 0 then 1 else R.norm

/-- The other three adapters' part. -/
def rest (k : Fin 5120) : EReal :=
  ∑ q : Fin 384, R.be (q.natAdd 128) * R.la (q.natAdd 128) k

/-- The merged weight. -/
def w (k : Fin 5120) : EReal := R.v k * Ideal.div R.m R.nd + R.rest k

/-- The merged row's largest magnitude. -/
def amax : EReal := Finset.univ.sup fun k => max (R.w k) (-R.w k)

/-- The row's scale: the largest magnitude over 448, or one where that is zero. -/
def s8 : EReal := if R.amax = 0 then 1 else Ideal.div R.amax 448

/-- The merged row over its scale, clipped to ±448. -/
def c8 (k : Fin 5120) : EReal := min 448 (max (-448) (Ideal.div (R.w k) R.s8))

/-- The sum of the squared errors of the codes. -/
def err : EReal := ∑ k, (R.w k - R.c8 k * R.s8) * (R.w k - R.c8 k * R.s8)

end Row

end Cert.Merge

end
-- ==== Proof.IPay.lean ====
module

public import proofs.«01_k».proof.Proof.IShared
public import proofs.«01_k».proof.Proof.Row
public import Idealize.ShloMosaic.Lib.Pointwise
public import Idealize.ShloMosaic.Lib.VecWindow

@[expose] public section
set_option maxRecDepth 16384
set_option maxHeartbeats 4000000
noncomputable section
namespace Cert.KernelIdeal.Gen
open Idealize.ShloMosaic Idealize.ShloMosaic.TcCoe Idealize.ShloMosaic.Tactic

theorem slice1_0 (l1t : Vec Ideal S256x32 .fp8e4m3) (l2 : Vec Ideal S1x32x512 .fp8e4m3) (be : Vec Ideal S256x128 .bf16) (la : Vec Ideal S1x128x512 .bf16) (wc : Vec Ideal S1x256x128 .fp8e4m3) (wsb l1b : Vec Ideal S256x128 .f32) (l2s : Vec Ideal S1x1x128 .f32) (r : Fin 256) (l : Fin 128) :
    k0_pay8 l1t l2 be la wc wsb l1b l2s (ix2 r l) = wc (ix3 0 r l) * wsb (ix2 r l) + (∑ j : Fin 32, l1t (ix2 r j) * l2 (ix3 0 j ⟨0 + l.val, by omega⟩)) * l1b (ix2 r l) * l2s (ix3 0 0 l) + ∑ q : Fin 128, be (ix2 r q) * la (ix3 0 q ⟨0 + l.val, by omega⟩) := by
  unfold k0_pay8 k0_pay6 k0_pay7
  pointwise

theorem slice1_1 (l1t : Vec Ideal S256x32 .fp8e4m3) (l2 : Vec Ideal S1x32x512 .fp8e4m3) (be : Vec Ideal S256x128 .bf16) (la : Vec Ideal S1x128x512 .bf16) (wc : Vec Ideal S1x256x128 .fp8e4m3) (wsb l1b : Vec Ideal S256x128 .f32) (l2s : Vec Ideal S1x1x128 .f32) (r : Fin 256) (l : Fin 128) :
    k0_pay10 (k0_pay6 l1t l2) (k0_pay7 be la) wc wsb l1b l2s (ix2 r l) = wc (ix3 0 r l) * wsb (ix2 r l) + (∑ j : Fin 32, l1t (ix2 r j) * l2 (ix3 0 j ⟨128 + l.val, by omega⟩)) * l1b (ix2 r l) * l2s (ix3 0 0 l) + ∑ q : Fin 128, be (ix2 r q) * la (ix3 0 q ⟨128 + l.val, by omega⟩) := by
  unfold k0_pay10 k0_pay6 k0_pay7
  pointwise

theorem slice1_2 (l1t : Vec Ideal S256x32 .fp8e4m3) (l2 : Vec Ideal S1x32x512 .fp8e4m3) (be : Vec Ideal S256x128 .bf16) (la : Vec Ideal S1x128x512 .bf16) (wc : Vec Ideal S1x256x128 .fp8e4m3) (wsb l1b : Vec Ideal S256x128 .f32) (l2s : Vec Ideal S1x1x128 .f32) (r : Fin 256) (l : Fin 128) :
    k0_pay15 (k0_pay7 be la) (k0_pay13 wc wsb) (k0_pay14 (k0_pay6 l1t l2)) l1b l2s (ix2 r l) = wc (ix3 0 r l) * wsb (ix2 r l) + (∑ j : Fin 32, l1t (ix2 r j) * l2 (ix3 0 j ⟨256 + l.val, by omega⟩)) * l1b (ix2 r l) * l2s (ix3 0 0 l) + ∑ q : Fin 128, be (ix2 r q) * la (ix3 0 q ⟨256 + l.val, by omega⟩) := by
  unfold k0_pay15 k0_pay13 k0_pay14 k0_pay6 k0_pay7
  pointwise

theorem slice1_3 (l1t : Vec Ideal S256x32 .fp8e4m3) (l2 : Vec Ideal S1x32x512 .fp8e4m3) (be : Vec Ideal S256x128 .bf16) (la : Vec Ideal S1x128x512 .bf16) (wc : Vec Ideal S1x256x128 .fp8e4m3) (wsb l1b : Vec Ideal S256x128 .f32) (l2s : Vec Ideal S1x1x128 .f32) (r : Fin 256) (l : Fin 128) :
    k0_pay17 (k0_pay6 l1t l2) (k0_pay7 be la) wc wsb l1b l2s (ix2 r l) = wc (ix3 0 r l) * wsb (ix2 r l) + (∑ j : Fin 32, l1t (ix2 r j) * l2 (ix3 0 j ⟨384 + l.val, by omega⟩)) * l1b (ix2 r l) * l2s (ix3 0 0 l) + ∑ q : Fin 128, be (ix2 r q) * la (ix3 0 q ⟨384 + l.val, by omega⟩) := by
  unfold k0_pay17 k0_pay6 k0_pay7
  pointwise

theorem slice2_0 (be : Vec Ideal S256x384 .bf16) (la : Vec Ideal S1x384x512 .bf16) (v m : Vec Ideal S256x128 .f32) (r : Fin 256) (l : Fin 128) :
    k0_pay21 be la v m (ix2 r l) = v (ix2 r l) * m (ix2 r l) + ∑ q : Fin 384, be (ix2 r q) * la (ix3 0 q ⟨0 + l.val, by omega⟩) := by
  unfold k0_pay21 k0_pay20
  pointwise

theorem slice2_1 (be : Vec Ideal S256x384 .bf16) (la : Vec Ideal S1x384x512 .bf16) (v m : Vec Ideal S256x128 .f32) (r : Fin 256) (l : Fin 128) :
    k0_pay24 be la v m (ix2 r l) = v (ix2 r l) * m (ix2 r l) + ∑ q : Fin 384, be (ix2 r q) * la (ix3 0 q ⟨128 + l.val, by omega⟩) := by
  unfold k0_pay24 k0_pay20
  pointwise

theorem slice2_2 (be : Vec Ideal S256x384 .bf16) (la : Vec Ideal S1x384x512 .bf16) (v m : Vec Ideal S256x128 .f32) (r : Fin 256) (l : Fin 128) :
    k0_pay59 (k0_pay20 be la) v m (ix2 r l) = v (ix2 r l) * m (ix2 r l) + ∑ q : Fin 384, be (ix2 r q) * la (ix3 0 q ⟨256 + l.val, by omega⟩) := by
  unfold k0_pay59 k0_pay20
  pointwise

theorem slice2_3 (be : Vec Ideal S256x384 .bf16) (la : Vec Ideal S1x384x512 .bf16) (v m : Vec Ideal S256x128 .f32) (r : Fin 256) (l : Fin 128) :
    k0_pay61 (k0_pay20 be la) v m (ix2 r l) = v (ix2 r l) * m (ix2 r l) + ∑ q : Fin 384, be (ix2 r q) * la (ix3 0 q ⟨384 + l.val, by omega⟩) := by
  unfold k0_pay61 k0_pay20
  pointwise

theorem code_28 (w m : Vec Ideal S256x128 .f32) (r : Fin 256) (l : Fin 128) :
    k0_pay28 w m (ix2 r l) = min (Ideal.ofBits .f32 0x43E00000#32) (max (Ideal.ofBits .f32 0xC3E00000#32) (w (ix2 r l) * m (ix2 r l))) := rfl

theorem code_33 (w m : Vec Ideal S256x128 .f32) (r : Fin 256) (l : Fin 128) :
    k0_pay33 w m (ix2 r l) = min (Ideal.ofBits .f32 0x43E00000#32) (max (Ideal.ofBits .f32 0xC3E00000#32) (w (ix2 r l) * m (ix2 r l))) := rfl

theorem code_37 (w m : Vec Ideal S256x128 .f32) (r : Fin 256) (l : Fin 128) :
    k0_pay37 w m (ix2 r l) = min (Ideal.ofBits .f32 0x43E00000#32) (max (Ideal.ofBits .f32 0xC3E00000#32) (w (ix2 r l) * m (ix2 r l))) := rfl

theorem code_40 (w m : Vec Ideal S256x128 .f32) (r : Fin 256) (l : Fin 128) :
    k0_pay40 w m (ix2 r l) = min (Ideal.ofBits .f32 0x43E00000#32) (max (Ideal.ofBits .f32 0xC3E00000#32) (w (ix2 r l) * m (ix2 r l))) := rfl

theorem store_29 (w m : Vec Ideal S256x128 .f32) (r : Fin 256) (l : Fin 128) :
    k0_pay29 w m (ix3 0 r l) = k0_pay28 w m (ix2 r l) := by
  unfold k0_pay29
  pointwise

theorem store_34 (w m : Vec Ideal S256x128 .f32) (r : Fin 256) (l : Fin 128) :
    k0_pay34 w m (ix3 0 r l) = k0_pay33 w m (ix2 r l) := by
  unfold k0_pay34
  pointwise

theorem store_41 (w m : Vec Ideal S256x128 .f32) (r : Fin 256) (l : Fin 128) :
    k0_pay41 w m (ix3 0 r l) = k0_pay40 w m (ix2 r l) := by
  unfold k0_pay41
  pointwise

theorem store_38 (w : Vec Ideal S256x128 .fp8e4m3) (r : Fin 256) (l : Fin 128) :
    k0_pay38 (F := Ideal) w (ix3 0 r l) = w (ix2 r l) := by
  unfold k0_pay38
  pointwise

theorem store_27 (w : Vec Ideal S256x128 .f32) (l : Fin 128) (r : Fin 256) :
    k0_pay27 w (ix3 0 l r) = w (ix2 r l) := by
  unfold k0_pay27
  pointwise

theorem store_36 (w : Vec Ideal S256x128 .f32) (l : Fin 128) (r : Fin 256) :
    k0_pay36 w (ix3 0 l r) = w (ix2 r l) := by
  unfold k0_pay36
  pointwise

theorem store_39 (w : Vec Ideal S256x128 .f32) (l : Fin 128) (r : Fin 256) :
    k0_pay39 w (ix3 0 l r) = w (ix2 r l) := by
  unfold k0_pay39
  pointwise

theorem store_32 (w : Vec Ideal S256x128 .f32) (l : Fin 128) (r : Fin 256) :
    k0_pay32 (k0_pay31 w) (ix3 0 l r) = w (ix2 r l) := by
  unfold k0_pay32 k0_pay31
  pointwise

end Cert.KernelIdeal.Gen
end
-- ==== Proof.ILoops.lean ====
/- What the three loops over the columns compute, as functions of the arrays they read: the weight before
   renormalisation (first loop), the merged weight (second), and its codes (third), 512 columns a trip in four slices of 128. -/
module

public import proofs.«01_k».proof.Proof.IShared
public import proofs.«01_k».proof.Proof.IPay
public import Idealize.ShloMosaic.Lib.Pointwise
public import Idealize.ShloMosaic.Lib.VecWindow

@[expose] public section
set_option maxRecDepth 16384
set_option maxHeartbeats 4000000
noncomputable section
namespace Cert.KernelIdeal.Gen
open Idealize.ShloMosaic Idealize.ShloMosaic.TcCoe Idealize.ShloMosaic.Tactic

/-- The lane a column falls on. -/
def lane (c : Fin 5120) : Fin 128 := ⟨c.val % 128, Nat.mod_lt _ (by decide)⟩

/-- The column of slice `n` at lane `l`. -/
def colN (n : ℕ) (l : Fin 128) : Fin 5120 := ⟨(128 * n + l.val) % 5120, Nat.mod_lt _ (by decide)⟩

theorem colN_val {n : ℕ} (h : n < 40) (l : Fin 128) : (colN n l).val = 128 * n + l.val :=
  Nat.mod_eq_of_lt (by have := l.isLt; omega)

theorem lane_colN {n : ℕ} (h : n < 40) (l : Fin 128) : lane (colN n l) = l :=
  Fin.ext (by show (colN n l).val % 128 = _; rw [colN_val h]; have := l.isLt; omega)

/-- The first loop's value: codes times scale, plus the low-rank product times its two scales, plus the first adapter. -/
def loop1V (wc : Vec Ideal S1x256x5120 .fp8e4m3) (l2 : Vec Ideal S1x32x5120 .fp8e4m3) (l2s : Vec Ideal S1x1x5120 .f32)
    (la : Vec Ideal S1x512x5120 .bf16) (be : Vec Ideal S256x512 .bf16) (l1t : Vec Ideal S256x32 .fp8e4m3)
    (wsb l1b : Vec Ideal S256x128 .f32) (r : Fin 256) (c : Fin 5120) : EReal :=
  wc (ix3 0 r c) * wsb (ix2 r (lane c)) + (∑ j : Fin 32, l1t (ix2 r j) * l2 (ix3 0 j c)) * l1b (ix2 r (lane c)) * l2s (ix3 0 0 c)
    + ∑ q : Fin 128, be (ix2 r (q.castLE (by decide))) * la (ix3 0 (q.castLE (by decide)) c)

/-- The second loop's value: the first loop's times the row's factor, plus the other three adapters. -/
def loop2W (la : Vec Ideal S1x512x5120 .bf16) (be : Vec Ideal S256x512 .bf16) (m : Vec Ideal S256x128 .f32)
    (v : Vec Ideal S256x5120 .f32) (r : Fin 256) (c : Fin 5120) : EReal :=
  v (ix2 r c) * m (ix2 r (lane c)) + ∑ q : Fin 384, be (ix2 r (q.natAdd 128)) * la (ix3 0 (q.natAdd 128) c)

/-- The third loop's codes: the merged weight times the inverse scale, clipped. -/
def loop3C (w : Vec Ideal S256x5120 .f32) (m : Vec Ideal S256x128 .f32) (r : Fin 256) (c : Fin 5120) : EReal :=
  min (Ideal.ofBits .f32 0x43E00000#32) (max (Ideal.ofBits .f32 0xC3E00000#32) (w (ix2 r c) * m (ix2 r (lane c))))

/-- A load through a unit-stride rectangle reads the buffer at the offsets plus the index. -/
theorem rdAt {sig : RefSig} {κ : Kind} {sp : Space} {s : Shape} {e : EltTy} (v : View sig κ sp s e) (f : v.ty.Contents (Elt Ideal))
    {off off' size : Fin s.rank → ℕ} {inb : ∀ a, off a + size a ≤ s.size a} (x : (Rect.unit off size inb).shape.Idx) (y : s.Idx)
    (ho : off = off') (h : ∀ a, (y a).val = off' a + (x a).val) :
    v.readAt (Elt Ideal) (Rect.unit off size inb).toLoadRect f x = v.read (Elt Ideal) f y := by
  subst ho
  exact congrArg (v.read (Elt Ideal) f) (funext fun a => Fin.ext (by
    show off a + 1 * (x a).val = (y a).val
    have := h a; omega))

theorem block1_0 (l1t : Vec Ideal S256x32 .fp8e4m3) (l2 : Vec Ideal S1x32x512 .fp8e4m3) (be : Vec Ideal S256x128 .bf16) (la : Vec Ideal S1x128x512 .bf16) (wc : Vec Ideal S1x256x128 .fp8e4m3) (wsb l1b : Vec Ideal S256x128 .f32) (l2s : Vec Ideal S1x1x128 .f32)
    (X5 : Vec Ideal S1x256x5120 .fp8e4m3) (X9 : Vec Ideal S1x32x5120 .fp8e4m3) (X10 : Vec Ideal S1x1x5120 .f32) (X12 : Vec Ideal S1x512x5120 .bf16) (X20 : Vec Ideal S256x512 .bf16) (X21 : Vec Ideal S256x32 .fp8e4m3) (X23 X24 : Vec Ideal S256x128 .f32)
    {t : ℕ} (ht : t < 10)
    (h5 : ∀ r l, wc (ix3 0 r l) = X5 (ix3 0 r (colN (4 * t + 0) l)))
    (h9 : ∀ j (c : Fin 512) (d : Fin 5120), d.val = 512 * t + c.val → l2 (ix3 0 j c) = X9 (ix3 0 j d))
    (h10 : ∀ l, l2s (ix3 0 0 l) = X10 (ix3 0 0 (colN (4 * t + 0) l)))
    (h12 : ∀ (q : Fin 128) (c : Fin 512) (d : Fin 5120), d.val = 512 * t + c.val → la (ix3 0 q c) = X12 (ix3 0 (q.castLE (by decide)) d))
    (h20 : ∀ r (q : Fin 128), be (ix2 r q) = X20 (ix2 r (q.castLE (by decide)))) (h21 : ∀ r j, l1t (ix2 r j) = X21 (ix2 r j))
    (h23 : ∀ r l, wsb (ix2 r l) = X23 (ix2 r l)) (h24 : ∀ r l, l1b (ix2 r l) = X24 (ix2 r l)) (r : Fin 256) (l : Fin 128) :
    k0_pay8 l1t l2 be la wc wsb l1b l2s (ix2 r l) = loop1V X5 X9 X10 X12 X20 X21 X23 X24 r (colN (4 * t + 0) l) := by
  have hc : (colN (4 * t + 0) l).val = 512 * t + (0 + l.val) := by rw [colN_val (by omega)]; omega
  have hl : lane (colN (4 * t + 0) l) = l := lane_colN (by omega) l
  rw [slice1_0]; unfold loop1V
  rw [hl, h5, h23, h24, h10]
  refine congrArg₂ (· + ·) (congrArg₂ (· + ·) rfl (congrArg (· * _) (congrArg (· * _) (Finset.sum_congr rfl fun j _ => ?_)))) (Finset.sum_congr rfl fun q _ => ?_)
  · rw [h21, h9 j _ _ hc]
  · rw [h20, h12 q _ _ hc]

theorem block1_1 (l1t : Vec Ideal S256x32 .fp8e4m3) (l2 : Vec Ideal S1x32x512 .fp8e4m3) (be : Vec Ideal S256x128 .bf16) (la : Vec Ideal S1x128x512 .bf16) (wc : Vec Ideal S1x256x128 .fp8e4m3) (wsb l1b : Vec Ideal S256x128 .f32) (l2s : Vec Ideal S1x1x128 .f32)
    (X5 : Vec Ideal S1x256x5120 .fp8e4m3) (X9 : Vec Ideal S1x32x5120 .fp8e4m3) (X10 : Vec Ideal S1x1x5120 .f32) (X12 : Vec Ideal S1x512x5120 .bf16) (X20 : Vec Ideal S256x512 .bf16) (X21 : Vec Ideal S256x32 .fp8e4m3) (X23 X24 : Vec Ideal S256x128 .f32)
    {t : ℕ} (ht : t < 10)
    (h5 : ∀ r l, wc (ix3 0 r l) = X5 (ix3 0 r (colN (4 * t + 1) l)))
    (h9 : ∀ j (c : Fin 512) (d : Fin 5120), d.val = 512 * t + c.val → l2 (ix3 0 j c) = X9 (ix3 0 j d))
    (h10 : ∀ l, l2s (ix3 0 0 l) = X10 (ix3 0 0 (colN (4 * t + 1) l)))
    (h12 : ∀ (q : Fin 128) (c : Fin 512) (d : Fin 5120), d.val = 512 * t + c.val → la (ix3 0 q c) = X12 (ix3 0 (q.castLE (by decide)) d))
    (h20 : ∀ r (q : Fin 128), be (ix2 r q) = X20 (ix2 r (q.castLE (by decide)))) (h21 : ∀ r j, l1t (ix2 r j) = X21 (ix2 r j))
    (h23 : ∀ r l, wsb (ix2 r l) = X23 (ix2 r l)) (h24 : ∀ r l, l1b (ix2 r l) = X24 (ix2 r l)) (r : Fin 256) (l : Fin 128) :
    k0_pay10 (k0_pay6 l1t l2) (k0_pay7 be la) wc wsb l1b l2s (ix2 r l) = loop1V X5 X9 X10 X12 X20 X21 X23 X24 r (colN (4 * t + 1) l) := by
  have hc : (colN (4 * t + 1) l).val = 512 * t + (128 + l.val) := by rw [colN_val (by omega)]; omega
  have hl : lane (colN (4 * t + 1) l) = l := lane_colN (by omega) l
  rw [slice1_1]; unfold loop1V
  rw [hl, h5, h23, h24, h10]
  refine congrArg₂ (· + ·) (congrArg₂ (· + ·) rfl (congrArg (· * _) (congrArg (· * _) (Finset.sum_congr rfl fun j _ => ?_)))) (Finset.sum_congr rfl fun q _ => ?_)
  · rw [h21, h9 j _ _ hc]
  · rw [h20, h12 q _ _ hc]

theorem block1_2 (l1t : Vec Ideal S256x32 .fp8e4m3) (l2 : Vec Ideal S1x32x512 .fp8e4m3) (be : Vec Ideal S256x128 .bf16) (la : Vec Ideal S1x128x512 .bf16) (wc : Vec Ideal S1x256x128 .fp8e4m3) (wsb l1b : Vec Ideal S256x128 .f32) (l2s : Vec Ideal S1x1x128 .f32)
    (X5 : Vec Ideal S1x256x5120 .fp8e4m3) (X9 : Vec Ideal S1x32x5120 .fp8e4m3) (X10 : Vec Ideal S1x1x5120 .f32) (X12 : Vec Ideal S1x512x5120 .bf16) (X20 : Vec Ideal S256x512 .bf16) (X21 : Vec Ideal S256x32 .fp8e4m3) (X23 X24 : Vec Ideal S256x128 .f32)
    {t : ℕ} (ht : t < 10)
    (h5 : ∀ r l, wc (ix3 0 r l) = X5 (ix3 0 r (colN (4 * t + 2) l)))
    (h9 : ∀ j (c : Fin 512) (d : Fin 5120), d.val = 512 * t + c.val → l2 (ix3 0 j c) = X9 (ix3 0 j d))
    (h10 : ∀ l, l2s (ix3 0 0 l) = X10 (ix3 0 0 (colN (4 * t + 2) l)))
    (h12 : ∀ (q : Fin 128) (c : Fin 512) (d : Fin 5120), d.val = 512 * t + c.val → la (ix3 0 q c) = X12 (ix3 0 (q.castLE (by decide)) d))
    (h20 : ∀ r (q : Fin 128), be (ix2 r q) = X20 (ix2 r (q.castLE (by decide)))) (h21 : ∀ r j, l1t (ix2 r j) = X21 (ix2 r j))
    (h23 : ∀ r l, wsb (ix2 r l) = X23 (ix2 r l)) (h24 : ∀ r l, l1b (ix2 r l) = X24 (ix2 r l)) (r : Fin 256) (l : Fin 128) :
    k0_pay15 (k0_pay7 be la) (k0_pay13 wc wsb) (k0_pay14 (k0_pay6 l1t l2)) l1b l2s (ix2 r l) = loop1V X5 X9 X10 X12 X20 X21 X23 X24 r (colN (4 * t + 2) l) := by
  have hc : (colN (4 * t + 2) l).val = 512 * t + (256 + l.val) := by rw [colN_val (by omega)]; omega
  have hl : lane (colN (4 * t + 2) l) = l := lane_colN (by omega) l
  rw [slice1_2]; unfold loop1V
  rw [hl, h5, h23, h24, h10]
  refine congrArg₂ (· + ·) (congrArg₂ (· + ·) rfl (congrArg (· * _) (congrArg (· * _) (Finset.sum_congr rfl fun j _ => ?_)))) (Finset.sum_congr rfl fun q _ => ?_)
  · rw [h21, h9 j _ _ hc]
  · rw [h20, h12 q _ _ hc]

theorem block1_3 (l1t : Vec Ideal S256x32 .fp8e4m3) (l2 : Vec Ideal S1x32x512 .fp8e4m3) (be : Vec Ideal S256x128 .bf16) (la : Vec Ideal S1x128x512 .bf16) (wc : Vec Ideal S1x256x128 .fp8e4m3) (wsb l1b : Vec Ideal S256x128 .f32) (l2s : Vec Ideal S1x1x128 .f32)
    (X5 : Vec Ideal S1x256x5120 .fp8e4m3) (X9 : Vec Ideal S1x32x5120 .fp8e4m3) (X10 : Vec Ideal S1x1x5120 .f32) (X12 : Vec Ideal S1x512x5120 .bf16) (X20 : Vec Ideal S256x512 .bf16) (X21 : Vec Ideal S256x32 .fp8e4m3) (X23 X24 : Vec Ideal S256x128 .f32)
    {t : ℕ} (ht : t < 10)
    (h5 : ∀ r l, wc (ix3 0 r l) = X5 (ix3 0 r (colN (4 * t + 3) l)))
    (h9 : ∀ j (c : Fin 512) (d : Fin 5120), d.val = 512 * t + c.val → l2 (ix3 0 j c) = X9 (ix3 0 j d))
    (h10 : ∀ l, l2s (ix3 0 0 l) = X10 (ix3 0 0 (colN (4 * t + 3) l)))
    (h12 : ∀ (q : Fin 128) (c : Fin 512) (d : Fin 5120), d.val = 512 * t + c.val → la (ix3 0 q c) = X12 (ix3 0 (q.castLE (by decide)) d))
    (h20 : ∀ r (q : Fin 128), be (ix2 r q) = X20 (ix2 r (q.castLE (by decide)))) (h21 : ∀ r j, l1t (ix2 r j) = X21 (ix2 r j))
    (h23 : ∀ r l, wsb (ix2 r l) = X23 (ix2 r l)) (h24 : ∀ r l, l1b (ix2 r l) = X24 (ix2 r l)) (r : Fin 256) (l : Fin 128) :
    k0_pay17 (k0_pay6 l1t l2) (k0_pay7 be la) wc wsb l1b l2s (ix2 r l) = loop1V X5 X9 X10 X12 X20 X21 X23 X24 r (colN (4 * t + 3) l) := by
  have hc : (colN (4 * t + 3) l).val = 512 * t + (384 + l.val) := by rw [colN_val (by omega)]; omega
  have hl : lane (colN (4 * t + 3) l) = l := lane_colN (by omega) l
  rw [slice1_3]; unfold loop1V
  rw [hl, h5, h23, h24, h10]
  refine congrArg₂ (· + ·) (congrArg₂ (· + ·) rfl (congrArg (· * _) (congrArg (· * _) (Finset.sum_congr rfl fun j _ => ?_)))) (Finset.sum_congr rfl fun q _ => ?_)
  · rw [h21, h9 j _ _ hc]
  · rw [h20, h12 q _ _ hc]

theorem block2_0 (be : Vec Ideal S256x384 .bf16) (la : Vec Ideal S1x384x512 .bf16) (v m : Vec Ideal S256x128 .f32)
    (X12 : Vec Ideal S1x512x5120 .bf16) (X20 : Vec Ideal S256x512 .bf16) (X23 : Vec Ideal S256x128 .f32) (X22 : Vec Ideal S256x5120 .f32) {t : ℕ} (ht : t < 10)
    (h22 : ∀ r l, v (ix2 r l) = X22 (ix2 r (colN (4 * t + 0) l)))
    (h12 : ∀ (q : Fin 384) (c : Fin 512) (d : Fin 5120), d.val = 512 * t + c.val → la (ix3 0 q c) = X12 (ix3 0 (q.natAdd 128) d))
    (h20 : ∀ r (q : Fin 384), be (ix2 r q) = X20 (ix2 r (q.natAdd 128))) (h23 : ∀ r l, m (ix2 r l) = X23 (ix2 r l)) (r : Fin 256) (l : Fin 128) :
    k0_pay21 be la v m (ix2 r l) = loop2W X12 X20 X23 X22 r (colN (4 * t + 0) l) := by
  have hc : (colN (4 * t + 0) l).val = 512 * t + (0 + l.val) := by rw [colN_val (by omega)]; omega
  have hl : lane (colN (4 * t + 0) l) = l := lane_colN (by omega) l
  rw [slice2_0]; unfold loop2W
  rw [hl, h22, h23]
  refine congrArg₂ (· + ·) rfl (Finset.sum_congr rfl fun q _ => ?_)
  rw [h20, h12 q _ _ hc]

theorem block2_1 (be : Vec Ideal S256x384 .bf16) (la : Vec Ideal S1x384x512 .bf16) (v m : Vec Ideal S256x128 .f32)
    (X12 : Vec Ideal S1x512x5120 .bf16) (X20 : Vec Ideal S256x512 .bf16) (X23 : Vec Ideal S256x128 .f32) (X22 : Vec Ideal S256x5120 .f32) {t : ℕ} (ht : t < 10)
    (h22 : ∀ r l, v (ix2 r l) = X22 (ix2 r (colN (4 * t + 1) l)))
    (h12 : ∀ (q : Fin 384) (c : Fin 512) (d : Fin 5120), d.val = 512 * t + c.val → la (ix3 0 q c) = X12 (ix3 0 (q.natAdd 128) d))
    (h20 : ∀ r (q : Fin 384), be (ix2 r q) = X20 (ix2 r (q.natAdd 128))) (h23 : ∀ r l, m (ix2 r l) = X23 (ix2 r l)) (r : Fin 256) (l : Fin 128) :
    k0_pay24 be la v m (ix2 r l) = loop2W X12 X20 X23 X22 r (colN (4 * t + 1) l) := by
  have hc : (colN (4 * t + 1) l).val = 512 * t + (128 + l.val) := by rw [colN_val (by omega)]; omega
  have hl : lane (colN (4 * t + 1) l) = l := lane_colN (by omega) l
  rw [slice2_1]; unfold loop2W
  rw [hl, h22, h23]
  refine congrArg₂ (· + ·) rfl (Finset.sum_congr rfl fun q _ => ?_)
  rw [h20, h12 q _ _ hc]

theorem block2_2 (be : Vec Ideal S256x384 .bf16) (la : Vec Ideal S1x384x512 .bf16) (v m : Vec Ideal S256x128 .f32)
    (X12 : Vec Ideal S1x512x5120 .bf16) (X20 : Vec Ideal S256x512 .bf16) (X23 : Vec Ideal S256x128 .f32) (X22 : Vec Ideal S256x5120 .f32) {t : ℕ} (ht : t < 10)
    (h22 : ∀ r l, v (ix2 r l) = X22 (ix2 r (colN (4 * t + 2) l)))
    (h12 : ∀ (q : Fin 384) (c : Fin 512) (d : Fin 5120), d.val = 512 * t + c.val → la (ix3 0 q c) = X12 (ix3 0 (q.natAdd 128) d))
    (h20 : ∀ r (q : Fin 384), be (ix2 r q) = X20 (ix2 r (q.natAdd 128))) (h23 : ∀ r l, m (ix2 r l) = X23 (ix2 r l)) (r : Fin 256) (l : Fin 128) :
    k0_pay59 (k0_pay20 be la) v m (ix2 r l) = loop2W X12 X20 X23 X22 r (colN (4 * t + 2) l) := by
  have hc : (colN (4 * t + 2) l).val = 512 * t + (256 + l.val) := by rw [colN_val (by omega)]; omega
  have hl : lane (colN (4 * t + 2) l) = l := lane_colN (by omega) l
  rw [slice2_2]; unfold loop2W
  rw [hl, h22, h23]
  refine congrArg₂ (· + ·) rfl (Finset.sum_congr rfl fun q _ => ?_)
  rw [h20, h12 q _ _ hc]

theorem block2_3 (be : Vec Ideal S256x384 .bf16) (la : Vec Ideal S1x384x512 .bf16) (v m : Vec Ideal S256x128 .f32)
    (X12 : Vec Ideal S1x512x5120 .bf16) (X20 : Vec Ideal S256x512 .bf16) (X23 : Vec Ideal S256x128 .f32) (X22 : Vec Ideal S256x5120 .f32) {t : ℕ} (ht : t < 10)
    (h22 : ∀ r l, v (ix2 r l) = X22 (ix2 r (colN (4 * t + 3) l)))
    (h12 : ∀ (q : Fin 384) (c : Fin 512) (d : Fin 5120), d.val = 512 * t + c.val → la (ix3 0 q c) = X12 (ix3 0 (q.natAdd 128) d))
    (h20 : ∀ r (q : Fin 384), be (ix2 r q) = X20 (ix2 r (q.natAdd 128))) (h23 : ∀ r l, m (ix2 r l) = X23 (ix2 r l)) (r : Fin 256) (l : Fin 128) :
    k0_pay61 (k0_pay20 be la) v m (ix2 r l) = loop2W X12 X20 X23 X22 r (colN (4 * t + 3) l) := by
  have hc : (colN (4 * t + 3) l).val = 512 * t + (384 + l.val) := by rw [colN_val (by omega)]; omega
  have hl : lane (colN (4 * t + 3) l) = l := lane_colN (by omega) l
  rw [slice2_3]; unfold loop2W
  rw [hl, h22, h23]
  refine congrArg₂ (· + ·) rfl (Finset.sum_congr rfl fun q _ => ?_)
  rw [h20, h12 q _ _ hc]

theorem block3_0 (w m : Vec Ideal S256x128 .f32) (X22 : Vec Ideal S256x5120 .f32) (X23 : Vec Ideal S256x128 .f32) {t : ℕ} (ht : t < 10)
    (h22 : ∀ r l, w (ix2 r l) = X22 (ix2 r (colN (4 * t + 0) l))) (h23 : ∀ r l, m (ix2 r l) = X23 (ix2 r l)) (r : Fin 256) (l : Fin 128) :
    k0_pay28 w m (ix2 r l) = loop3C X22 X23 r (colN (4 * t + 0) l) := by
  rw [code_28, h22, h23]; unfold loop3C
  rw [lane_colN (by omega) l]

theorem block3_1 (w m : Vec Ideal S256x128 .f32) (X22 : Vec Ideal S256x5120 .f32) (X23 : Vec Ideal S256x128 .f32) {t : ℕ} (ht : t < 10)
    (h22 : ∀ r l, w (ix2 r l) = X22 (ix2 r (colN (4 * t + 1) l))) (h23 : ∀ r l, m (ix2 r l) = X23 (ix2 r l)) (r : Fin 256) (l : Fin 128) :
    k0_pay33 w m (ix2 r l) = loop3C X22 X23 r (colN (4 * t + 1) l) := by
  rw [code_33, h22, h23]; unfold loop3C
  rw [lane_colN (by omega) l]

theorem block3_2 (w m : Vec Ideal S256x128 .f32) (X22 : Vec Ideal S256x5120 .f32) (X23 : Vec Ideal S256x128 .f32) {t : ℕ} (ht : t < 10)
    (h22 : ∀ r l, w (ix2 r l) = X22 (ix2 r (colN (4 * t + 2) l))) (h23 : ∀ r l, m (ix2 r l) = X23 (ix2 r l)) (r : Fin 256) (l : Fin 128) :
    k0_pay37 w m (ix2 r l) = loop3C X22 X23 r (colN (4 * t + 2) l) := by
  rw [code_37, h22, h23]; unfold loop3C
  rw [lane_colN (by omega) l]

theorem block3_3 (w m : Vec Ideal S256x128 .f32) (X22 : Vec Ideal S256x5120 .f32) (X23 : Vec Ideal S256x128 .f32) {t : ℕ} (ht : t < 10)
    (h22 : ∀ r l, w (ix2 r l) = X22 (ix2 r (colN (4 * t + 3) l))) (h23 : ∀ r l, m (ix2 r l) = X23 (ix2 r l)) (r : Fin 256) (l : Fin 128) :
    k0_pay40 w m (ix2 r l) = loop3C X22 X23 r (colN (4 * t + 3) l) := by
  rw [code_40, h22, h23]; unfold loop3C
  rw [lane_colN (by omega) l]

theorem trips1 : k0_t1_loop.trips = 10 := by decide

theorem off7_0 : ∀ k : Fin k0_t1_loop.trips, k0_off7 k 0#32 = ![0, 0, 512 * k.val + 0] := by decide

theorem off7_1 : ∀ k : Fin k0_t1_loop.trips, k0_off7 k 128#32 = ![0, 0, 512 * k.val + 128] := by decide

theorem off7_2 : ∀ k : Fin k0_t1_loop.trips, k0_off7 k 256#32 = ![0, 0, 512 * k.val + 256] := by decide

theorem off7_3 : ∀ k : Fin k0_t1_loop.trips, k0_off7 k 384#32 = ![0, 0, 512 * k.val + 384] := by decide

theorem off8_0 : ∀ k : Fin k0_t1_loop.trips, k0_off8 k 0#32 = ![0, 0, 512 * k.val + 0] := by decide

theorem off8_1 : ∀ k : Fin k0_t1_loop.trips, k0_off8 k 128#32 = ![0, 0, 512 * k.val + 128] := by decide

theorem off8_2 : ∀ k : Fin k0_t1_loop.trips, k0_off8 k 256#32 = ![0, 0, 512 * k.val + 256] := by decide

theorem off8_3 : ∀ k : Fin k0_t1_loop.trips, k0_off8 k 384#32 = ![0, 0, 512 * k.val + 384] := by decide

theorem off9_0 : ∀ k : Fin k0_t1_loop.trips, k0_off9 k 0#32 = ![0, 512 * k.val + 0] := by decide

theorem off9_1 : ∀ k : Fin k0_t1_loop.trips, k0_off9 k 128#32 = ![0, 512 * k.val + 128] := by decide

theorem off9_2 : ∀ k : Fin k0_t1_loop.trips, k0_off9 k 256#32 = ![0, 512 * k.val + 256] := by decide

theorem off9_3 : ∀ k : Fin k0_t1_loop.trips, k0_off9 k 384#32 = ![0, 512 * k.val + 384] := by decide

theorem trips2 : k0_t2_loop.trips = 10 := by decide

theorem off12_0 : ∀ k : Fin k0_t2_loop.trips, k0_off12 k 0#32 = ![0, 512 * k.val + 0] := by decide

theorem off12_1 : ∀ k : Fin k0_t2_loop.trips, k0_off12 k 128#32 = ![0, 512 * k.val + 128] := by decide

theorem off12_2 : ∀ k : Fin k0_t2_loop.trips, k0_off12 k 256#32 = ![0, 512 * k.val + 256] := by decide

theorem off12_3 : ∀ k : Fin k0_t2_loop.trips, k0_off12 k 384#32 = ![0, 512 * k.val + 384] := by decide

theorem trips3 : k0_t3_loop.trips = 10 := by decide

theorem off13_0 : ∀ k : Fin k0_t3_loop.trips, k0_off13 k 0#32 = ![0, 512 * k.val + 0] := by decide

theorem off13_1 : ∀ k : Fin k0_t3_loop.trips, k0_off13 k 128#32 = ![0, 512 * k.val + 128] := by decide

theorem off13_2 : ∀ k : Fin k0_t3_loop.trips, k0_off13 k 256#32 = ![0, 512 * k.val + 256] := by decide

theorem off13_3 : ∀ k : Fin k0_t3_loop.trips, k0_off13 k 384#32 = ![0, 512 * k.val + 384] := by decide

theorem off14_0 : ∀ k : Fin k0_t3_loop.trips, k0_off14 k 0#32 = ![0, 512 * k.val + 0, 0] := by decide

theorem off14_1 : ∀ k : Fin k0_t3_loop.trips, k0_off14 k 128#32 = ![0, 512 * k.val + 128, 0] := by decide

theorem off14_2 : ∀ k : Fin k0_t3_loop.trips, k0_off14 k 256#32 = ![0, 512 * k.val + 256, 0] := by decide

theorem off14_3 : ∀ k : Fin k0_t3_loop.trips, k0_off14 k 384#32 = ![0, 512 * k.val + 384, 0] := by decide

theorem off15_0 : ∀ k : Fin k0_t3_loop.trips, k0_off15 k 0#32 = ![0, 0, 512 * k.val + 0] := by decide

theorem off15_1 : ∀ k : Fin k0_t3_loop.trips, k0_off15 k 128#32 = ![0, 0, 512 * k.val + 128] := by decide

theorem off15_2 : ∀ k : Fin k0_t3_loop.trips, k0_off15 k 256#32 = ![0, 0, 512 * k.val + 256] := by decide

theorem off15_3 : ∀ k : Fin k0_t3_loop.trips, k0_off15 k 384#32 = ![0, 0, 512 * k.val + 384] := by decide

theorem off6_val : ∀ k : Fin k0_t1_loop.trips, k0_off6 k = ![0, 0, 512 * k.val] := by decide
theorem off5_val : ∀ k : Fin k0_t1_loop.trips, k0_off5 k = ![0, 0, 512 * k.val] := by decide
theorem off11_val : ∀ k : Fin k0_t2_loop.trips, k0_off11 k = ![0, 128, 512 * k.val] := by decide

/-- What a list of stores leaves, when every store agrees with one function of the place: that function where some
    store reached, the old contents elsewhere. -/
theorem read_pieces {sig : RefSig} {κ : Kind} {sp : Space} {s : Shape} {e : EltTy} (v : View sig κ sp s e) (f : v.ty.Contents (Elt Ideal))
    (L : List (View.Piece (Elt Ideal) s e)) (G : s.Idx → Elt Ideal e) (P : s.Idx → Prop) [DecidablePred P]
    (hG : ∀ p ∈ L, ∀ x : p.1.shape.Idx, p.2 x = G (p.1.emb x)) (hP : ∀ y, P y ↔ ∃ p ∈ L, y ∈ p.1.set) (y : s.Idx) :
    v.read (Elt Ideal) (v.writes (Elt Ideal) f L) y = if P y then G y else v.read (Elt Ideal) f y := by
  by_cases h : P y
  · rw [if_pos h]; exact View.read_writes_apply_of_pieces v f G L hG y ((hP y).mp h)
  · rw [if_neg h]
    exact View.read_writes_apply_of_forall_not_mem v f y L fun p hp hy => h ((hP y).mpr ⟨p, hp, hy⟩)

/-- A store of the whole buffer leaves its payload. -/
theorem read_store {sig : RefSig} {κ : Kind} {sp : Space} {s : Shape} {e : EltTy} (v : View sig κ sp s e) (f : v.ty.Contents (Elt Ideal))
    {off size : Fin s.rank → ℕ} (inb : ∀ a, off a + size a ≤ s.size a) (w : (Rect.unit off size inb).shape.Idx → Elt Ideal e)
    (y : s.Idx) (x : (Rect.unit off size inb).shape.Idx) (h : ∀ a, (y a).val = off a + (x a).val) :
    v.read (Elt Ideal) (v.writes (Elt Ideal) f [⟨Rect.unit off size inb, w⟩]) y = w x :=
  View.read_writes_cons_unit_of_mem v f inb w [] y x rfl h

theorem acc1 (a b acc p0 w1 x1 y1 z1 p2 q2 x2 z2 w3 x3 y3 z3) (r : Fin 256) (l : Fin 128) :
    k0_pay52 (F := Ideal) (k0_pay19 a b (k0_pay12 a b acc p0 w1 x1 y1 z1) p2 q2 x2 z2 w3 x3 y3 z3) (ix2 r l)
      = acc (ix2 r l) + p0 (ix2 r l) * p0 (ix2 r l) + k0_pay10 a b w1 x1 y1 z1 (ix2 r l) * k0_pay10 a b w1 x1 y1 z1 (ix2 r l)
        + k0_pay15 b p2 q2 x2 z2 (ix2 r l) * k0_pay15 b p2 q2 x2 z2 (ix2 r l)
        + k0_pay17 a b w3 x3 y3 z3 (ix2 r l) * k0_pay17 a b w3 x3 y3 z3 (ix2 r l) := by
  unfold k0_pay52 k0_pay19 k0_pay12
  pointwise

theorem acc2 (be la acc v0 m0 v1 m1 v2 m2 v3 m3) (r : Fin 256) (l : Fin 128) :
    k0_pay63 (F := Ideal) (k0_pay20 be la) (k0_pay23 be la acc v0 m0) (k0_pay26 be la v1 m1) v2 m2 v3 m3 (ix2 r l)
      = max (max (max (max (acc (ix2 r l)) (max (k0_pay21 be la v0 m0 (ix2 r l)) (-k0_pay21 be la v0 m0 (ix2 r l))))
          (max (k0_pay24 be la v1 m1 (ix2 r l)) (-k0_pay24 be la v1 m1 (ix2 r l))))
          (max (k0_pay59 (k0_pay20 be la) v2 m2 (ix2 r l)) (-k0_pay59 (k0_pay20 be la) v2 m2 (ix2 r l))))
          (max (k0_pay61 (k0_pay20 be la) v3 m3 (ix2 r l)) (-k0_pay61 (k0_pay20 be la) v3 m3 (ix2 r l))) := by
  unfold k0_pay63 k0_pay23 k0_pay26
  pointwise
  rfl

theorem acc3 (acc w0 m0 s0 w1 m1 s1 w2 m2 s2 w3 m3 s3) (r : Fin 256) (l : Fin 128) :
    k0_pay42 (F := Ideal) (k0_pay35 (k0_pay30 acc w0 m0 s0) w1 m1 s1) w2 (k0_pay37 w2 m2) s2 w3 m3 s3 (ix2 r l)
      = acc (ix2 r l)
        + (w0 (ix2 r l) - k0_pay28 w0 m0 (ix2 r l) * s0 (ix2 r l)) * (w0 (ix2 r l) - k0_pay28 w0 m0 (ix2 r l) * s0 (ix2 r l))
        + (w1 (ix2 r l) - k0_pay33 w1 m1 (ix2 r l) * s1 (ix2 r l)) * (w1 (ix2 r l) - k0_pay33 w1 m1 (ix2 r l) * s1 (ix2 r l))
        + (w2 (ix2 r l) - k0_pay37 w2 m2 (ix2 r l) * s2 (ix2 r l)) * (w2 (ix2 r l) - k0_pay37 w2 m2 (ix2 r l) * s2 (ix2 r l))
        + (w3 (ix2 r l) - k0_pay40 w3 m3 (ix2 r l) * s3 (ix2 r l)) * (w3 (ix2 r l) - k0_pay40 w3 m3 (ix2 r l) * s3 (ix2 r l)) := by
  unfold k0_pay42 k0_pay35 k0_pay30
  pointwise

theorem idx2 {a0 a1 b0 b1 : ℕ} {p : Fin a0} {q : Fin a1} {x : Fin b0} {y : Fin b1} {o0 o1 : ℕ} (h0 : p.val = o0 + x.val) (h1 : q.val = o1 + y.val) :
    ∀ a : Fin 2, (ix2 p q a).val = (![o0, o1] : Fin 2 → ℕ) a + (ix2 x y a).val
  | 0 => h0
  | 1 => h1

theorem idx3 {a0 a1 a2 b0 b1 b2 : ℕ} {p : Fin a0} {q : Fin a1} {s : Fin a2} {x : Fin b0} {y : Fin b1} {z : Fin b2} {o0 o1 o2 : ℕ}
    (h0 : p.val = o0 + x.val) (h1 : q.val = o1 + y.val) (h2 : s.val = o2 + z.val) :
    ∀ a : Fin 3, (ix3 p q s a).val = (![o0, o1, o2] : Fin 3 → ℕ) a + (ix3 x y z a).val
  | 0 => h0
  | 1 => h1
  | 2 => h2

theorem val0 {a b : ℕ} [NeZero a] [NeZero b] : ((0 : Fin a).val) = 0 + (0 : Fin b).val := by simp

theorem read_trip2 {sig : RefSig} {κ : Kind} {sp : Space} (v : View sig κ sp S256x5120 .f32) (f : v.ty.Contents (Elt Ideal)) {k : ℕ} (hk : k < 10)
    {o0 o1 o2 o3 : Fin S256x5120.rank → ℕ} (h0 : o0 = ![0, 512 * k + 0]) (h1 : o1 = ![0, 512 * k + 128]) (h2 : o2 = ![0, 512 * k + 256]) (h3 : o3 = ![0, 512 * k + 384])
    (inb0 : ∀ a, o0 a + S256x128.size a ≤ S256x5120.size a) (w0 : (Rect.unit o0 S256x128.size inb0).shape.Idx → EReal)
    (inb1 : ∀ a, o1 a + S256x128.size a ≤ S256x5120.size a) (w1 : (Rect.unit o1 S256x128.size inb1).shape.Idx → EReal)
    (inb2 : ∀ a, o2 a + S256x128.size a ≤ S256x5120.size a) (w2 : (Rect.unit o2 S256x128.size inb2).shape.Idx → EReal)
    (inb3 : ∀ a, o3 a + S256x128.size a ≤ S256x5120.size a) (w3 : (Rect.unit o3 S256x128.size inb3).shape.Idx → EReal) (g : Fin 256 → Fin 5120 → EReal)
    (e0 : ∀ (r : Fin 256) (l : Fin 128), w0 (ix2 r l) = g r (colN (4 * k + 0) l))
    (e1 : ∀ (r : Fin 256) (l : Fin 128), w1 (ix2 r l) = g r (colN (4 * k + 1) l))
    (e2 : ∀ (r : Fin 256) (l : Fin 128), w2 (ix2 r l) = g r (colN (4 * k + 2) l))
    (e3 : ∀ (r : Fin 256) (l : Fin 128), w3 (ix2 r l) = g r (colN (4 * k + 3) l))
    (y : S256x5120.Idx) :
    v.read (Elt Ideal) (v.writes (Elt Ideal) f [⟨Rect.unit o3 S256x128.size inb3, w3⟩, ⟨Rect.unit o2 S256x128.size inb2, w2⟩, ⟨Rect.unit o1 S256x128.size inb1, w1⟩, ⟨Rect.unit o0 S256x128.size inb0, w0⟩]) y
      = if 512 * k ≤ (y 1).val ∧ (y 1).val < 512 * k + 512 then g (y 0) (y 1) else v.read (Elt Ideal) f y := by
  subst h0 h1 h2 h3
  refine read_pieces v f _ (fun y => g (y 0) (y 1)) (fun y => 512 * k ≤ (y 1).val ∧ (y 1).val < 512 * k + 512) ?_ ?_ y
  · intro p hp
    simp only [List.mem_cons, List.not_mem_nil, or_false] at hp
    rcases hp with rfl | rfl | rfl | rfl <;> intro x
    · have hx : x = ix2 (n0 := 256) (n1 := 128) (x 0) (x 1) := eq_ix2 (f := x)
      refine ((congrArg w3 hx).trans ?_)
      have hl : (x 1).val < 128 := (x 1).isLt
      refine (e3 (x 0) (x 1)).trans (congrArg₂ g (Fin.ext ?_) (Fin.ext ?_))
      · show (x 0).val = 0 + 1 * (x 0).val
        omega
      · refine (colN_val (n := 4 * k + 3) (by omega) _).trans ?_
        show 128 * (4 * k + 3) + (x 1).val = (512 * k + 384) + 1 * (x 1).val
        omega
    · have hx : x = ix2 (n0 := 256) (n1 := 128) (x 0) (x 1) := eq_ix2 (f := x)
      refine ((congrArg w2 hx).trans ?_)
      have hl : (x 1).val < 128 := (x 1).isLt
      refine (e2 (x 0) (x 1)).trans (congrArg₂ g (Fin.ext ?_) (Fin.ext ?_))
      · show (x 0).val = 0 + 1 * (x 0).val
        omega
      · refine (colN_val (n := 4 * k + 2) (by omega) _).trans ?_
        show 128 * (4 * k + 2) + (x 1).val = (512 * k + 256) + 1 * (x 1).val
        omega
    · have hx : x = ix2 (n0 := 256) (n1 := 128) (x 0) (x 1) := eq_ix2 (f := x)
      refine ((congrArg w1 hx).trans ?_)
      have hl : (x 1).val < 128 := (x 1).isLt
      refine (e1 (x 0) (x 1)).trans (congrArg₂ g (Fin.ext ?_) (Fin.ext ?_))
      · show (x 0).val = 0 + 1 * (x 0).val
        omega
      · refine (colN_val (n := 4 * k + 1) (by omega) _).trans ?_
        show 128 * (4 * k + 1) + (x 1).val = (512 * k + 128) + 1 * (x 1).val
        omega
    · have hx : x = ix2 (n0 := 256) (n1 := 128) (x 0) (x 1) := eq_ix2 (f := x)
      refine ((congrArg w0 hx).trans ?_)
      have hl : (x 1).val < 128 := (x 1).isLt
      refine (e0 (x 0) (x 1)).trans (congrArg₂ g (Fin.ext ?_) (Fin.ext ?_))
      · show (x 0).val = 0 + 1 * (x 0).val
        omega
      · refine (colN_val (n := 4 * k + 0) (by omega) _).trans ?_
        show 128 * (4 * k + 0) + (x 1).val = (512 * k + 0) + 1 * (x 1).val
        omega
  · intro y
    simp only [List.mem_cons, List.not_mem_nil, or_false, exists_eq_or_imp, exists_eq_left, Rect.mem_set_unit]
    have q0 : (y 0).val < 256 := (y 0).isLt
    simp only [Fin.forall_fin_two]
    show (512 * k ≤ (y 1).val ∧ (y 1).val < 512 * k + 512) ↔ _
    simp [Shape.size]
    omega

theorem read_tripc {sig : RefSig} {κ : Kind} {sp : Space} (v : View sig κ sp S1x256x5120 .fp8e4m3) (f : v.ty.Contents (Elt Ideal)) {k : ℕ} (hk : k < 10)
    {o0 o1 o2 o3 : Fin S1x256x5120.rank → ℕ} (h0 : o0 = ![0, 0, 512 * k + 0]) (h1 : o1 = ![0, 0, 512 * k + 128]) (h2 : o2 = ![0, 0, 512 * k + 256]) (h3 : o3 = ![0, 0, 512 * k + 384])
    (inb0 : ∀ a, o0 a + S1x256x128.size a ≤ S1x256x5120.size a) (w0 : (Rect.unit o0 S1x256x128.size inb0).shape.Idx → EReal)
    (inb1 : ∀ a, o1 a + S1x256x128.size a ≤ S1x256x5120.size a) (w1 : (Rect.unit o1 S1x256x128.size inb1).shape.Idx → EReal)
    (inb2 : ∀ a, o2 a + S1x256x128.size a ≤ S1x256x5120.size a) (w2 : (Rect.unit o2 S1x256x128.size inb2).shape.Idx → EReal)
    (inb3 : ∀ a, o3 a + S1x256x128.size a ≤ S1x256x5120.size a) (w3 : (Rect.unit o3 S1x256x128.size inb3).shape.Idx → EReal) (g : Fin 256 → Fin 5120 → EReal)
    (e0 : ∀ (r : Fin 256) (l : Fin 128), w0 (ix3 0 r l) = g r (colN (4 * k + 0) l))
    (e1 : ∀ (r : Fin 256) (l : Fin 128), w1 (ix3 0 r l) = g r (colN (4 * k + 1) l))
    (e2 : ∀ (r : Fin 256) (l : Fin 128), w2 (ix3 0 r l) = g r (colN (4 * k + 2) l))
    (e3 : ∀ (r : Fin 256) (l : Fin 128), w3 (ix3 0 r l) = g r (colN (4 * k + 3) l))
    (y : S1x256x5120.Idx) :
    v.read (Elt Ideal) (v.writes (Elt Ideal) f [⟨Rect.unit o3 S1x256x128.size inb3, w3⟩, ⟨Rect.unit o2 S1x256x128.size inb2, w2⟩, ⟨Rect.unit o1 S1x256x128.size inb1, w1⟩, ⟨Rect.unit o0 S1x256x128.size inb0, w0⟩]) y
      = if 512 * k ≤ (y 2).val ∧ (y 2).val < 512 * k + 512 then g (y 1) (y 2) else v.read (Elt Ideal) f y := by
  subst h0 h1 h2 h3
  refine read_pieces v f _ (fun y => g (y 1) (y 2)) (fun y => 512 * k ≤ (y 2).val ∧ (y 2).val < 512 * k + 512) ?_ ?_ y
  · intro p hp
    simp only [List.mem_cons, List.not_mem_nil, or_false] at hp
    rcases hp with rfl | rfl | rfl | rfl <;> intro x
    · have hx : x = ix3 (n0 := 1) (n1 := 256) (n2 := 128) (x 0) (x 1) (x 2) := eq_ix3 (f := x)
      refine ((congrArg w3 hx).trans ?_)
      have hl : (x 2).val < 128 := (x 2).isLt
      have hx0 : x 0 = (0 : Fin 1) := Subsingleton.elim (α := Fin 1) _ _
      rw [hx0]
      refine (e3 (x 1) (x 2)).trans (congrArg₂ g (Fin.ext ?_) (Fin.ext ?_))
      · show (x 1).val = 0 + 1 * (x 1).val
        omega
      · refine (colN_val (n := 4 * k + 3) (by omega) _).trans ?_
        show 128 * (4 * k + 3) + (x 2).val = (512 * k + 384) + 1 * (x 2).val
        omega
    · have hx : x = ix3 (n0 := 1) (n1 := 256) (n2 := 128) (x 0) (x 1) (x 2) := eq_ix3 (f := x)
      refine ((congrArg w2 hx).trans ?_)
      have hl : (x 2).val < 128 := (x 2).isLt
      have hx0 : x 0 = (0 : Fin 1) := Subsingleton.elim (α := Fin 1) _ _
      rw [hx0]
      refine (e2 (x 1) (x 2)).trans (congrArg₂ g (Fin.ext ?_) (Fin.ext ?_))
      · show (x 1).val = 0 + 1 * (x 1).val
        omega
      · refine (colN_val (n := 4 * k + 2) (by omega) _).trans ?_
        show 128 * (4 * k + 2) + (x 2).val = (512 * k + 256) + 1 * (x 2).val
        omega
    · have hx : x = ix3 (n0 := 1) (n1 := 256) (n2 := 128) (x 0) (x 1) (x 2) := eq_ix3 (f := x)
      refine ((congrArg w1 hx).trans ?_)
      have hl : (x 2).val < 128 := (x 2).isLt
      have hx0 : x 0 = (0 : Fin 1) := Subsingleton.elim (α := Fin 1) _ _
      rw [hx0]
      refine (e1 (x 1) (x 2)).trans (congrArg₂ g (Fin.ext ?_) (Fin.ext ?_))
      · show (x 1).val = 0 + 1 * (x 1).val
        omega
      · refine (colN_val (n := 4 * k + 1) (by omega) _).trans ?_
        show 128 * (4 * k + 1) + (x 2).val = (512 * k + 128) + 1 * (x 2).val
        omega
    · have hx : x = ix3 (n0 := 1) (n1 := 256) (n2 := 128) (x 0) (x 1) (x 2) := eq_ix3 (f := x)
      refine ((congrArg w0 hx).trans ?_)
      have hl : (x 2).val < 128 := (x 2).isLt
      have hx0 : x 0 = (0 : Fin 1) := Subsingleton.elim (α := Fin 1) _ _
      rw [hx0]
      refine (e0 (x 1) (x 2)).trans (congrArg₂ g (Fin.ext ?_) (Fin.ext ?_))
      · show (x 1).val = 0 + 1 * (x 1).val
        omega
      · refine (colN_val (n := 4 * k + 0) (by omega) _).trans ?_
        show 128 * (4 * k + 0) + (x 2).val = (512 * k + 0) + 1 * (x 2).val
        omega
  · intro y
    simp only [List.mem_cons, List.not_mem_nil, or_false, exists_eq_or_imp, exists_eq_left, Rect.mem_set_unit]
    have q0 : (y 0).val < 1 := (y 0).isLt
    have q1 := (y 1).isLt
    have q2 := (y 2).isLt
    simp only [Fin.forall_fin_succ]
    simp [Shape.size] at *
    omega

theorem read_tript {sig : RefSig} {κ : Kind} {sp : Space} (v : View sig κ sp S1x5120x256 .f32) (f : v.ty.Contents (Elt Ideal)) {k : ℕ} (hk : k < 10)
    {o0 o1 o2 o3 : Fin S1x5120x256.rank → ℕ} (h0 : o0 = ![0, 512 * k + 0, 0]) (h1 : o1 = ![0, 512 * k + 128, 0]) (h2 : o2 = ![0, 512 * k + 256, 0]) (h3 : o3 = ![0, 512 * k + 384, 0])
    (inb0 : ∀ a, o0 a + S1x128x256.size a ≤ S1x5120x256.size a) (w0 : (Rect.unit o0 S1x128x256.size inb0).shape.Idx → EReal)
    (inb1 : ∀ a, o1 a + S1x128x256.size a ≤ S1x5120x256.size a) (w1 : (Rect.unit o1 S1x128x256.size inb1).shape.Idx → EReal)
    (inb2 : ∀ a, o2 a + S1x128x256.size a ≤ S1x5120x256.size a) (w2 : (Rect.unit o2 S1x128x256.size inb2).shape.Idx → EReal)
    (inb3 : ∀ a, o3 a + S1x128x256.size a ≤ S1x5120x256.size a) (w3 : (Rect.unit o3 S1x128x256.size inb3).shape.Idx → EReal) (g : Fin 256 → Fin 5120 → EReal)
    (e0 : ∀ (r : Fin 256) (l : Fin 128), w0 (ix3 0 l r) = g r (colN (4 * k + 0) l))
    (e1 : ∀ (r : Fin 256) (l : Fin 128), w1 (ix3 0 l r) = g r (colN (4 * k + 1) l))
    (e2 : ∀ (r : Fin 256) (l : Fin 128), w2 (ix3 0 l r) = g r (colN (4 * k + 2) l))
    (e3 : ∀ (r : Fin 256) (l : Fin 128), w3 (ix3 0 l r) = g r (colN (4 * k + 3) l))
    (y : S1x5120x256.Idx) :
    v.read (Elt Ideal) (v.writes (Elt Ideal) f [⟨Rect.unit o3 S1x128x256.size inb3, w3⟩, ⟨Rect.unit o2 S1x128x256.size inb2, w2⟩, ⟨Rect.unit o1 S1x128x256.size inb1, w1⟩, ⟨Rect.unit o0 S1x128x256.size inb0, w0⟩]) y
      = if 512 * k ≤ (y 1).val ∧ (y 1).val < 512 * k + 512 then g (y 2) (y 1) else v.read (Elt Ideal) f y := by
  subst h0 h1 h2 h3
  refine read_pieces v f _ (fun y => g (y 2) (y 1)) (fun y => 512 * k ≤ (y 1).val ∧ (y 1).val < 512 * k + 512) ?_ ?_ y
  · intro p hp
    simp only [List.mem_cons, List.not_mem_nil, or_false] at hp
    rcases hp with rfl | rfl | rfl | rfl <;> intro x
    · have hx : x = ix3 (n0 := 1) (n1 := 128) (n2 := 256) (x 0) (x 1) (x 2) := eq_ix3 (f := x)
      refine ((congrArg w3 hx).trans ?_)
      have hl : (x 1).val < 128 := (x 1).isLt
      have hx0 : x 0 = (0 : Fin 1) := Subsingleton.elim (α := Fin 1) _ _
      rw [hx0]
      refine (e3 (x 2) (x 1)).trans (congrArg₂ g (Fin.ext ?_) (Fin.ext ?_))
      · show (x 2).val = 0 + 1 * (x 2).val
        omega
      · refine (colN_val (n := 4 * k + 3) (by omega) _).trans ?_
        show 128 * (4 * k + 3) + (x 1).val = (512 * k + 384) + 1 * (x 1).val
        omega
    · have hx : x = ix3 (n0 := 1) (n1 := 128) (n2 := 256) (x 0) (x 1) (x 2) := eq_ix3 (f := x)
      refine ((congrArg w2 hx).trans ?_)
      have hl : (x 1).val < 128 := (x 1).isLt
      have hx0 : x 0 = (0 : Fin 1) := Subsingleton.elim (α := Fin 1) _ _
      rw [hx0]
      refine (e2 (x 2) (x 1)).trans (congrArg₂ g (Fin.ext ?_) (Fin.ext ?_))
      · show (x 2).val = 0 + 1 * (x 2).val
        omega
      · refine (colN_val (n := 4 * k + 2) (by omega) _).trans ?_
        show 128 * (4 * k + 2) + (x 1).val = (512 * k + 256) + 1 * (x 1).val
        omega
    · have hx : x = ix3 (n0 := 1) (n1 := 128) (n2 := 256) (x 0) (x 1) (x 2) := eq_ix3 (f := x)
      refine ((congrArg w1 hx).trans ?_)
      have hl : (x 1).val < 128 := (x 1).isLt
      have hx0 : x 0 = (0 : Fin 1) := Subsingleton.elim (α := Fin 1) _ _
      rw [hx0]
      refine (e1 (x 2) (x 1)).trans (congrArg₂ g (Fin.ext ?_) (Fin.ext ?_))
      · show (x 2).val = 0 + 1 * (x 2).val
        omega
      · refine (colN_val (n := 4 * k + 1) (by omega) _).trans ?_
        show 128 * (4 * k + 1) + (x 1).val = (512 * k + 128) + 1 * (x 1).val
        omega
    · have hx : x = ix3 (n0 := 1) (n1 := 128) (n2 := 256) (x 0) (x 1) (x 2) := eq_ix3 (f := x)
      refine ((congrArg w0 hx).trans ?_)
      have hl : (x 1).val < 128 := (x 1).isLt
      have hx0 : x 0 = (0 : Fin 1) := Subsingleton.elim (α := Fin 1) _ _
      rw [hx0]
      refine (e0 (x 2) (x 1)).trans (congrArg₂ g (Fin.ext ?_) (Fin.ext ?_))
      · show (x 2).val = 0 + 1 * (x 2).val
        omega
      · refine (colN_val (n := 4 * k + 0) (by omega) _).trans ?_
        show 128 * (4 * k + 0) + (x 1).val = (512 * k + 0) + 1 * (x 1).val
        omega
  · intro y
    simp only [List.mem_cons, List.not_mem_nil, or_false, exists_eq_or_imp, exists_eq_left, Rect.mem_set_unit]
    have q0 : (y 0).val < 1 := (y 0).isLt
    have q1 := (y 1).isLt
    have q2 := (y 2).isLt
    simp only [Fin.forall_fin_succ]
    simp [Shape.size] at *
    omega

theorem keep9 (w : Vec Ideal S256x128 .f32) (r : Fin 256) (l : Fin 128) : k0_pay9 (F := Ideal) w (ix2 r l) = w (ix2 r l) := by
  unfold k0_pay9
  pointwise

theorem keep11 (a0 a1 a2 a3 a4 a5) (r : Fin 256) (l : Fin 128) : k0_pay11 (F := Ideal) a0 a1 a2 a3 a4 a5 (ix2 r l) = k0_pay10 a0 a1 a2 a3 a4 a5 (ix2 r l) := by
  unfold k0_pay11
  pointwise

theorem keep16 (a0 a1 a2 a3 a4) (r : Fin 256) (l : Fin 128) : k0_pay16 (F := Ideal) a0 a1 a2 a3 a4 (ix2 r l) = k0_pay15 a0 a1 a2 a3 a4 (ix2 r l) := by
  unfold k0_pay16
  pointwise

theorem keep18 (a0 a1 a2 a3 a4 a5) (r : Fin 256) (l : Fin 128) : k0_pay18 (F := Ideal) a0 a1 a2 a3 a4 a5 (ix2 r l) = k0_pay17 a0 a1 a2 a3 a4 a5 (ix2 r l) := by
  unfold k0_pay18
  pointwise

theorem keep22 (a0 a1 a2 a3) (r : Fin 256) (l : Fin 128) : k0_pay22 (F := Ideal) a0 a1 a2 a3 (ix2 r l) = k0_pay21 a0 a1 a2 a3 (ix2 r l) := by
  unfold k0_pay22
  pointwise

theorem keep25 (a0 a1 a2 a3) (r : Fin 256) (l : Fin 128) : k0_pay25 (F := Ideal) a0 a1 a2 a3 (ix2 r l) = k0_pay24 a0 a1 a2 a3 (ix2 r l) := by
  unfold k0_pay25
  pointwise

theorem keep60 (a0 a1 a2) (r : Fin 256) (l : Fin 128) : k0_pay60 (F := Ideal) a0 a1 a2 (ix2 r l) = k0_pay59 a0 a1 a2 (ix2 r l) := by
  unfold k0_pay60
  pointwise

theorem keep62 (a0 a1 a2) (r : Fin 256) (l : Fin 128) : k0_pay62 (F := Ideal) a0 a1 a2 (ix2 r l) = k0_pay61 a0 a1 a2 (ix2 r l) := by
  unfold k0_pay62
  pointwise

theorem sum5 {a a' b0 b1 b2 b3 c0 c1 c2 c3 : EReal} (h : a = a') (h0 : b0 = c0) (h1 : b1 = c1) (h2 : b2 = c2) (h3 : b3 = c3) (F : EReal → EReal) (G : EReal → EReal → EReal) :
    G (G (G (G a (F b0)) (F b1)) (F b2)) (F b3) = G (G (G (G a' (F c0)) (F c1)) (F c2)) (F c3) := by
  rw [h, h0, h1, h2, h3]

end Cert.KernelIdeal.Gen
end
-- ==== Proof.ILoop1.lean ====
/- The first loop over the columns, at the extended reals: what its ten trips leave in the row buffer and in the
   accumulator of squares. -/
module

public import proofs.«01_k».proof.Proof.IShared
public import proofs.«01_k».proof.Proof.ILoops
public import Idealize.ShloMosaic.Lib.Pointwise
public import Idealize.ShloMosaic.Lib.WholeRead
public import Idealize.ShloMosaic.Lib.VecWindow

@[expose] public section
set_option maxRecDepth 16384
set_option maxHeartbeats 4000000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

variable (𝒱 : Variants) (c : Dev nD) (bd : Option 𝒱.V) (i : grid0.Coords) (arg2 : Memref sig .tc .smem S3x4 .i32) (harg2 : arg2.IsWhole) (arg3 : Memref sig .tc .smem S3x4 .f32) (harg3 : arg3.IsWhole) (arg4 : Memref sig .tc .smem S3x4 .f32) (harg4 : arg4.IsWhole) (arg5 : Memref sig .tc .vmem S1x256x5120 .fp8e4m3) (harg5 : arg5.IsWhole) (arg6 : Memref sig .tc .vmem S1x1x256 .f32) (harg6 : arg6.IsWhole) (arg7 : Memref sig .tc .vmem S1x32x256 .fp8e4m3) (harg7 : arg7.IsWhole) (arg8 : Memref sig .tc .vmem S1x1x256 .f32) (harg8 : arg8.IsWhole) (arg9 : Memref sig .tc .vmem S1x32x5120 .fp8e4m3) (harg9 : arg9.IsWhole) (arg10 : Memref sig .tc .vmem S1x1x5120 .f32) (harg10 : arg10.IsWhole) (arg11 : Memref sig .tc .vmem S1x4x256x128 .bf16) (harg11 : arg11.IsWhole) (arg12 : Memref sig .tc .vmem S1x512x5120 .bf16) (harg12 : arg12.IsWhole) (arg13 : Memref sig .tc .vmem S1x1x256 .f32) (harg13 : arg13.IsWhole) (arg14 : Memref sig .tc .vmem S3x1x6912 .f32) (harg14 : arg14.IsWhole) (arg15 : Memref sig .tc .vmem S3x1x6912 .f32) (harg15 : arg15.IsWhole) (arg16 : Memref sig .tc .vmem S3x1x6912 .f32) (harg16 : arg16.IsWhole) (arg17 : Memref sig .tc .vmem S1x256x5120 .fp8e4m3) (harg17 : arg17.IsWhole) (arg18 : Memref sig .tc .vmem S1x5120x256 .f32) (harg18 : arg18.IsWhole) (arg19 : Memref sig .tc .vmem S1x8x128 .f32) (harg19 : arg19.IsWhole) (arg20 : Memref sig .tc .vmem S256x512 .bf16) (harg20 : arg20.IsWhole) (arg21 : Memref sig .tc .vmem S256x32 .fp8e4m3) (harg21 : arg21.IsWhole) (arg22 : Memref sig .tc .vmem S256x5120 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (arg0 : BitVec 32) (v1 : BitVec 32) (X_arg5 : BufTy.Contents (Elt Ideal) arg5.view.ty) (X_arg9 : BufTy.Contents (Elt Ideal) arg9.view.ty) (X_arg10 : BufTy.Contents (Elt Ideal) arg10.view.ty) (X_arg12 : BufTy.Contents (Elt Ideal) arg12.view.ty) (X_arg20 : BufTy.Contents (Elt Ideal) arg20.view.ty) (X_arg21 : BufTy.Contents (Elt Ideal) arg21.view.ty) (X_arg23 : BufTy.Contents (Elt Ideal) arg23.view.ty) (X_arg24 : BufTy.Contents (Elt Ideal) arg24.view.ty)

/-- One trip leaves its 512 columns of the row buffer at the loop's value. -/
theorem trip1_v (k : Fin k0_t1_loop.trips) (f_arg22 : BufTy.Contents (Elt Ideal) arg22.view.ty) (f_arg25 : BufTy.Contents (Elt Ideal) arg25.view.ty) (y : S256x5120.Idx) :
    arg22.view.read (Elt Ideal) (arg22.view.writes (Elt Ideal) f_arg22 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 X_arg5 X_arg9 X_arg10 X_arg12 X_arg20 X_arg21 X_arg23 X_arg24 k f_arg22 f_arg25).1) y
      = if 512 * k.val ≤ (y 1).val ∧ (y 1).val < 512 * k.val + 512 then loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) (y 0) (y 1) else arg22.view.read (Elt Ideal) f_arg22 y := by
  have hk : k.val < 10 := trips1 ▸ k.isLt
  unfold tripL_k0_t1 trip_k0_t1
  dsimp only
  refine read_trip2 arg22.view f_arg22 hk (off9_0 k) (off9_1 k) (off9_2 k) (off9_3 k) _ _ _ _ _ _ _ _ (loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24)) ?_ ?_ ?_ ?_ y <;> intro r l <;> sl_unfold_words
  · exact (keep9 _ r l).trans (block1_0 _ _ _ _ _ _ _ _ (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) hk
      (fun r l => rdAt _ _ _ _ (off7_0 k) (idx3 val0 (Nat.zero_add _).symm (by rw [colN_val (by omega)]; omega)))
      (fun j c d hd => rdAt _ _ _ _ (off5_val k) (idx3 val0 (Nat.zero_add _).symm hd))
      (fun l => rdAt _ _ _ _ (off8_0 k) (idx3 val0 val0 (by rw [colN_val (by omega)]; omega)))
      (fun q c d hd => rdAt _ _ _ _ (off6_val k) (idx3 val0 (by show q.val = 0 + q.val; omega) hd))
      (fun r q => rdAt _ _ _ _ rfl (idx2 (Nat.zero_add _).symm (by show q.val = 0 + q.val; omega)))
      (fun r j => rdAt _ _ _ _ rfl (idx2 (Nat.zero_add _).symm (Nat.zero_add _).symm))
      (fun r l => rdAt _ _ _ _ rfl (idx2 (Nat.zero_add _).symm (Nat.zero_add _).symm))
      (fun r l => rdAt _ _ _ _ rfl (idx2 (Nat.zero_add _).symm (Nat.zero_add _).symm)) r l)
  · exact (keep11 _ _ _ _ _ _ r l).trans (block1_1 _ _ _ _ _ _ _ _ (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) hk
      (fun r l => rdAt _ _ _ _ (off7_1 k) (idx3 val0 (Nat.zero_add _).symm (by rw [colN_val (by omega)]; omega)))
      (fun j c d hd => rdAt _ _ _ _ (off5_val k) (idx3 val0 (Nat.zero_add _).symm hd))
      (fun l => rdAt _ _ _ _ (off8_1 k) (idx3 val0 val0 (by rw [colN_val (by omega)]; omega)))
      (fun q c d hd => rdAt _ _ _ _ (off6_val k) (idx3 val0 (by show q.val = 0 + q.val; omega) hd))
      (fun r q => rdAt _ _ _ _ rfl (idx2 (Nat.zero_add _).symm (by show q.val = 0 + q.val; omega)))
      (fun r j => rdAt _ _ _ _ rfl (idx2 (Nat.zero_add _).symm (Nat.zero_add _).symm))
      (fun r l => rdAt _ _ _ _ rfl (idx2 (Nat.zero_add _).symm (Nat.zero_add _).symm))
      (fun r l => rdAt _ _ _ _ rfl (idx2 (Nat.zero_add _).symm (Nat.zero_add _).symm)) r l)
  · exact (keep16 _ _ _ _ _ r l).trans (block1_2 _ _ _ _ _ _ _ _ (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) hk
      (fun r l => rdAt _ _ _ _ (off7_2 k) (idx3 val0 (Nat.zero_add _).symm (by rw [colN_val (by omega)]; omega)))
      (fun j c d hd => rdAt _ _ _ _ (off5_val k) (idx3 val0 (Nat.zero_add _).symm hd))
      (fun l => rdAt _ _ _ _ (off8_2 k) (idx3 val0 val0 (by rw [colN_val (by omega)]; omega)))
      (fun q c d hd => rdAt _ _ _ _ (off6_val k) (idx3 val0 (by show q.val = 0 + q.val; omega) hd))
      (fun r q => rdAt _ _ _ _ rfl (idx2 (Nat.zero_add _).symm (by show q.val = 0 + q.val; omega)))
      (fun r j => rdAt _ _ _ _ rfl (idx2 (Nat.zero_add _).symm (Nat.zero_add _).symm))
      (fun r l => rdAt _ _ _ _ rfl (idx2 (Nat.zero_add _).symm (Nat.zero_add _).symm))
      (fun r l => rdAt _ _ _ _ rfl (idx2 (Nat.zero_add _).symm (Nat.zero_add _).symm)) r l)
  · exact (keep18 _ _ _ _ _ _ r l).trans (block1_3 _ _ _ _ _ _ _ _ (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) hk
      (fun r l => rdAt _ _ _ _ (off7_3 k) (idx3 val0 (Nat.zero_add _).symm (by rw [colN_val (by omega)]; omega)))
      (fun j c d hd => rdAt _ _ _ _ (off5_val k) (idx3 val0 (Nat.zero_add _).symm hd))
      (fun l => rdAt _ _ _ _ (off8_3 k) (idx3 val0 val0 (by rw [colN_val (by omega)]; omega)))
      (fun q c d hd => rdAt _ _ _ _ (off6_val k) (idx3 val0 (by show q.val = 0 + q.val; omega) hd))
      (fun r q => rdAt _ _ _ _ rfl (idx2 (Nat.zero_add _).symm (by show q.val = 0 + q.val; omega)))
      (fun r j => rdAt _ _ _ _ rfl (idx2 (Nat.zero_add _).symm (Nat.zero_add _).symm))
      (fun r l => rdAt _ _ _ _ rfl (idx2 (Nat.zero_add _).symm (Nat.zero_add _).symm))
      (fun r l => rdAt _ _ _ _ rfl (idx2 (Nat.zero_add _).symm (Nat.zero_add _).symm)) r l)

/-- One trip adds its four slices' squares to the accumulator. -/
theorem trip1_acc (k : Fin k0_t1_loop.trips) (f_arg22 : BufTy.Contents (Elt Ideal) arg22.view.ty) (f_arg25 : BufTy.Contents (Elt Ideal) arg25.view.ty) (r : Fin 256) (l : Fin 128) :
    arg25.view.read (Elt Ideal) (arg25.view.writes (Elt Ideal) f_arg25 (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 X_arg5 X_arg9 X_arg10 X_arg12 X_arg20 X_arg21 X_arg23 X_arg24 k f_arg22 f_arg25).2) (ix2 r l)
      = arg25.view.read (Elt Ideal) f_arg25 (ix2 r l)
        + loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) r (colN (4 * k.val + 0) l) * loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) r (colN (4 * k.val + 0) l)
        + loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) r (colN (4 * k.val + 1) l) * loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) r (colN (4 * k.val + 1) l)
        + loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) r (colN (4 * k.val + 2) l) * loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) r (colN (4 * k.val + 2) l)
        + loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) r (colN (4 * k.val + 3) l) * loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) r (colN (4 * k.val + 3) l)
        := by
  have hk : k.val < 10 := trips1 ▸ k.isLt
  unfold tripL_k0_t1 trip_k0_t1
  dsimp only
  refine (read_store arg25.view f_arg25 _ _ (ix2 r l) (ix2 r l) (idx2 (Nat.zero_add _).symm (Nat.zero_add _).symm)).trans ?_
  sl_unfold_words
  refine (acc1 _ _ _ _ _ _ _ _ _ _ _ _ _ _ _ _ r l).trans (sum5 ?_ ?_ ?_ ?_ ?_ (fun x => x * x) (fun a b => a + b))
  · exact rdAt _ _ _ _ rfl (idx2 (Nat.zero_add _).symm (Nat.zero_add _).symm)
  · exact block1_0 _ _ _ _ _ _ _ _ (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) hk
      (fun r l => rdAt _ _ _ _ (off7_0 k) (idx3 val0 (Nat.zero_add _).symm (by rw [colN_val (by omega)]; omega)))
      (fun j c d hd => rdAt _ _ _ _ (off5_val k) (idx3 val0 (Nat.zero_add _).symm hd))
      (fun l => rdAt _ _ _ _ (off8_0 k) (idx3 val0 val0 (by rw [colN_val (by omega)]; omega)))
      (fun q c d hd => rdAt _ _ _ _ (off6_val k) (idx3 val0 (by show q.val = 0 + q.val; omega) hd))
      (fun r q => rdAt _ _ _ _ rfl (idx2 (Nat.zero_add _).symm (by show q.val = 0 + q.val; omega)))
      (fun r j => rdAt _ _ _ _ rfl (idx2 (Nat.zero_add _).symm (Nat.zero_add _).symm))
      (fun r l => rdAt _ _ _ _ rfl (idx2 (Nat.zero_add _).symm (Nat.zero_add _).symm))
      (fun r l => rdAt _ _ _ _ rfl (idx2 (Nat.zero_add _).symm (Nat.zero_add _).symm)) r l
  · exact block1_1 _ _ _ _ _ _ _ _ (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) hk
      (fun r l => rdAt _ _ _ _ (off7_1 k) (idx3 val0 (Nat.zero_add _).symm (by rw [colN_val (by omega)]; omega)))
      (fun j c d hd => rdAt _ _ _ _ (off5_val k) (idx3 val0 (Nat.zero_add _).symm hd))
      (fun l => rdAt _ _ _ _ (off8_1 k) (idx3 val0 val0 (by rw [colN_val (by omega)]; omega)))
      (fun q c d hd => rdAt _ _ _ _ (off6_val k) (idx3 val0 (by show q.val = 0 + q.val; omega) hd))
      (fun r q => rdAt _ _ _ _ rfl (idx2 (Nat.zero_add _).symm (by show q.val = 0 + q.val; omega)))
      (fun r j => rdAt _ _ _ _ rfl (idx2 (Nat.zero_add _).symm (Nat.zero_add _).symm))
      (fun r l => rdAt _ _ _ _ rfl (idx2 (Nat.zero_add _).symm (Nat.zero_add _).symm))
      (fun r l => rdAt _ _ _ _ rfl (idx2 (Nat.zero_add _).symm (Nat.zero_add _).symm)) r l
  · exact block1_2 _ _ _ _ _ _ _ _ (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) hk
      (fun r l => rdAt _ _ _ _ (off7_2 k) (idx3 val0 (Nat.zero_add _).symm (by rw [colN_val (by omega)]; omega)))
      (fun j c d hd => rdAt _ _ _ _ (off5_val k) (idx3 val0 (Nat.zero_add _).symm hd))
      (fun l => rdAt _ _ _ _ (off8_2 k) (idx3 val0 val0 (by rw [colN_val (by omega)]; omega)))
      (fun q c d hd => rdAt _ _ _ _ (off6_val k) (idx3 val0 (by show q.val = 0 + q.val; omega) hd))
      (fun r q => rdAt _ _ _ _ rfl (idx2 (Nat.zero_add _).symm (by show q.val = 0 + q.val; omega)))
      (fun r j => rdAt _ _ _ _ rfl (idx2 (Nat.zero_add _).symm (Nat.zero_add _).symm))
      (fun r l => rdAt _ _ _ _ rfl (idx2 (Nat.zero_add _).symm (Nat.zero_add _).symm))
      (fun r l => rdAt _ _ _ _ rfl (idx2 (Nat.zero_add _).symm (Nat.zero_add _).symm)) r l
  · exact block1_3 _ _ _ _ _ _ _ _ (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) hk
      (fun r l => rdAt _ _ _ _ (off7_3 k) (idx3 val0 (Nat.zero_add _).symm (by rw [colN_val (by omega)]; omega)))
      (fun j c d hd => rdAt _ _ _ _ (off5_val k) (idx3 val0 (Nat.zero_add _).symm hd))
      (fun l => rdAt _ _ _ _ (off8_3 k) (idx3 val0 val0 (by rw [colN_val (by omega)]; omega)))
      (fun q c d hd => rdAt _ _ _ _ (off6_val k) (idx3 val0 (by show q.val = 0 + q.val; omega) hd))
      (fun r q => rdAt _ _ _ _ rfl (idx2 (Nat.zero_add _).symm (by show q.val = 0 + q.val; omega)))
      (fun r j => rdAt _ _ _ _ rfl (idx2 (Nat.zero_add _).symm (Nat.zero_add _).symm))
      (fun r l => rdAt _ _ _ _ rfl (idx2 (Nat.zero_add _).symm (Nat.zero_add _).symm))
      (fun r l => rdAt _ _ _ _ rfl (idx2 (Nat.zero_add _).symm (Nat.zero_add _).symm)) r l

/-- After `n` trips: the columns below `512 n` at the loop's value, the accumulator with `4 n` slices' squares added. -/
theorem after1 (G_arg22 : BufTy.Contents (Elt Ideal) arg22.view.ty) (G_arg25 : BufTy.Contents (Elt Ideal) arg25.view.ty) (n : ℕ) (hn : n ≤ 10) :
    (∀ y : S256x5120.Idx, arg22.view.read (Elt Ideal) (arg22.view.writes (Elt Ideal) G_arg22 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 X_arg5 X_arg9 X_arg10 X_arg12 X_arg20 X_arg21 X_arg23 X_arg24 G_arg22 G_arg25 n).1) y
        = if (y 1).val < 512 * n then loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) (y 0) (y 1) else arg22.view.read (Elt Ideal) G_arg22 y)
      ∧ ∀ (r : Fin 256) (l : Fin 128), arg25.view.read (Elt Ideal) (arg25.view.writes (Elt Ideal) G_arg25 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 X_arg5 X_arg9 X_arg10 X_arg12 X_arg20 X_arg21 X_arg23 X_arg24 G_arg22 G_arg25 n).2) (ix2 r l)
        = arg25.view.read (Elt Ideal) G_arg25 (ix2 r l) + ∑ j ∈ Finset.range (4 * n), loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) r (colN j l) * loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) r (colN j l) := by
  induction n with
  | zero =>
    refine ⟨fun y => ?_, fun r l => ?_⟩
    · rw [if_neg (by omega), pb_k0_t1.eq_1]; rfl
    · rw [pb_k0_t1.eq_1, Nat.mul_zero, Finset.sum_range_zero, add_zero]; rfl
  | succ n ih =>
    obtain ⟨ih1, ih2⟩ := ih (by omega)
    have hs := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 X_arg5 X_arg9 X_arg10 X_arg12 X_arg20 X_arg21 X_arg23 X_arg24 G_arg22 G_arg25 ⟨n, by rw [trips1]; omega⟩
    refine ⟨fun y => ?_, fun r l => ?_⟩
    · rw [show (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 X_arg5 X_arg9 X_arg10 X_arg12 X_arg20 X_arg21 X_arg23 X_arg24 G_arg22 G_arg25 (n + 1)).1 = _ from congrArg Prod.fst hs, View.writes_append, trip1_v, ih1 y]
      by_cases h1 : (y 1).val < 512 * n
      · rw [if_neg (by dsimp only; omega), if_pos h1, if_pos (by omega)]
      · by_cases h2 : (y 1).val < 512 * n + 512
        · rw [if_pos (by dsimp only; omega), if_pos (by omega)]
        · rw [if_neg (by dsimp only; omega), if_neg h1, if_neg (by omega)]
    · rw [show (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 X_arg5 X_arg9 X_arg10 X_arg12 X_arg20 X_arg21 X_arg23 X_arg24 G_arg22 G_arg25 (n + 1)).2 = _ from congrArg Prod.snd hs, View.writes_append, trip1_acc, ih2 r l]
      rw [show 4 * (n + 1) = 4 * n + 1 + 1 + 1 + 1 by ring, Finset.sum_range_succ, Finset.sum_range_succ, Finset.sum_range_succ, Finset.sum_range_succ]
      simp only [add_assoc, Nat.add_zero]

/-- The row buffer after the loop. -/
def end1V (x5 : Vec Ideal S1x256x5120 .fp8e4m3) (x9 : Vec Ideal S1x32x5120 .fp8e4m3) (x10 : Vec Ideal S1x1x5120 .f32)
    (x12 : Vec Ideal S1x512x5120 .bf16) (x20 : Vec Ideal S256x512 .bf16) (x21 : Vec Ideal S256x32 .fp8e4m3)
    (x23 x24 : Vec Ideal S256x128 .f32) : Vec Ideal S256x5120 .f32 := fun y => loop1V x5 x9 x10 x12 x20 x21 x23 x24 (y 0) (y 1)

/-- An accumulator with the forty slices of a function of the columns added on. -/
def endAcc (g : Fin 256 → Fin 5120 → EReal) (x25 : Vec Ideal S256x128 .f32) : Vec Ideal S256x128 .f32 :=
  fun y => x25 y + ∑ j ∈ Finset.range 40, g (y 0) (colN j (y 1))

set_option warn.classDefReducibility false in
/-- What the first loop leaves, stated by the buffers' readings. -/
instance exit1 (E : Set ℕ) (G_arg22 : BufTy.Contents (Elt Ideal) arg22.view.ty) (G_arg25 : BufTy.Contents (Elt Ideal) arg25.view.ty) :
    LoopExit (loopInv_k0_t1 (F := Ideal) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 X_arg5 X_arg9 X_arg10 X_arg12 X_arg20 X_arg21 X_arg23 X_arg24 G_arg22 G_arg25) where
  post _ := iprop((arg5.view.loc (c : Thread nD τ) ↦[arg5.view.set]{fullShare} X_arg5) ∗ (arg9.view.loc (c : Thread nD τ) ↦[arg9.view.set]{fullShare} X_arg9) ∗ (arg10.view.loc (c : Thread nD τ) ↦[arg10.view.set]{fullShare} X_arg10) ∗ (arg12.view.loc (c : Thread nD τ) ↦[arg12.view.set]{fullShare} X_arg12) ∗ (arg20.view.loc (c : Thread nD τ) ↦[arg20.view.set]{fullShare} X_arg20) ∗ (arg21.view.loc (c : Thread nD τ) ↦[arg21.view.set]{fullShare} X_arg21) ∗ (arg23.view.loc (c : Thread nD τ) ↦[arg23.view.set]{fullShare} X_arg23) ∗ (arg24.view.loc (c : Thread nD τ) ↦[arg24.view.set]{fullShare} X_arg24) ∗ (arg22.view.loc (c : Thread nD τ) ↦[arg22.view.set]{fullShare} (harg22.unread (end1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24)))) ∗ (arg25.view.loc (c : Thread nD τ) ↦[arg25.view.set]{fullShare} (harg25.unread (endAcc (fun r c => loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) r c * loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) r c) (arg25.view.read (Elt Ideal) G_arg25)))))
  exit _ := by
    show inv_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 X_arg5 X_arg9 X_arg10 X_arg12 X_arg20 X_arg21 X_arg23 X_arg24 G_arg22 G_arg25 k0_t1_loop.trips _ ⊢ _
    rw [trips1]
    unfold inv_k0_t1
    have h22 : arg22.view.writes (Elt Ideal) G_arg22 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 X_arg5 X_arg9 X_arg10 X_arg12 X_arg20 X_arg21 X_arg23 X_arg24 G_arg22 G_arg25 10).1 = (harg22.unread (end1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24))) := by
      refine harg22.eq_unread (funext fun y => ?_)
      rw [(after1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 X_arg5 X_arg9 X_arg10 X_arg12 X_arg20 X_arg21 X_arg23 X_arg24 G_arg22 G_arg25 10 le_rfl).1 y, if_pos (show (y 1).val < 5120 from (y 1).isLt)]; rfl
    have h25 : arg25.view.writes (Elt Ideal) G_arg25 (pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 X_arg5 X_arg9 X_arg10 X_arg12 X_arg20 X_arg21 X_arg23 X_arg24 G_arg22 G_arg25 10).2 = (harg25.unread (endAcc (fun r c => loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) r c * loop1V (arg5.view.read (Elt Ideal) X_arg5) (arg9.view.read (Elt Ideal) X_arg9) (arg10.view.read (Elt Ideal) X_arg10) (arg12.view.read (Elt Ideal) X_arg12) (arg20.view.read (Elt Ideal) X_arg20) (arg21.view.read (Elt Ideal) X_arg21) (arg23.view.read (Elt Ideal) X_arg23) (arg24.view.read (Elt Ideal) X_arg24) r c) (arg25.view.read (Elt Ideal) G_arg25))) := by
      refine harg25.eq_unread (funext fun y => ?_)
      have hy : y = ix2 (n0 := 256) (n1 := 128) (y 0) (y 1) := eq_ix2 (f := y)
      rw [hy]
      exact (after1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 v1 X_arg5 X_arg9 X_arg10 X_arg12 X_arg20 X_arg21 X_arg23 X_arg24 G_arg22 G_arg25 10 le_rfl).2 (y 0) (y 1)
    iintro ⟨H0, H1, H2, H3, H4, H5, H6, H7, ⟨%fa, HA, %ha⟩, ⟨%fb, HB, %hb⟩⟩
    subst ha hb
    rw [h22, h25]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexact HA
    iexact HB

end Cert.KernelIdeal.Gen
end
-- ==== Proof.ILoop2.lean ====
/- The second loop over the columns, at the extended reals: what its ten trips leave in the row buffer and in the
   running maximum of magnitudes. -/
module

public import proofs.«01_k».proof.Proof.IShared
public import proofs.«01_k».proof.Proof.ILoop1
public import Idealize.ShloMosaic.Lib.Pointwise
public import Idealize.ShloMosaic.Lib.WholeRead
public import Idealize.ShloMosaic.Lib.VecWindow

@[expose] public section
set_option maxRecDepth 16384
set_option maxHeartbeats 4000000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The magnitude. -/
def mag (x : EReal) : EReal := max x (-x)

/-- An accumulator raised to the forty slices of a function of the columns. -/
def endMax (g : Fin 256 → Fin 5120 → EReal) (x26 : Vec Ideal S256x128 .f32) : Vec Ideal S256x128 .f32 :=
  fun y => max (x26 y) ((Finset.range 40).sup fun j => g (y 0) (colN j (y 1)))

/-- The row buffer after the second loop. -/
def end2W (x12 : Vec Ideal S1x512x5120 .bf16) (x20 : Vec Ideal S256x512 .bf16) (x23 : Vec Ideal S256x128 .f32) (x22 : Vec Ideal S256x5120 .f32) :
    Vec Ideal S256x5120 .f32 := fun y => loop2W x12 x20 x23 x22 (y 0) (y 1)

/-- A maximum raised by four. -/
theorem max4 (G S a b x d : EReal) : max (max (max (max (max G S) a) b) x) d = max G (d ⊔ (x ⊔ (b ⊔ (a ⊔ S)))) := by
  simp only [max_comm, max_left_comm, max_assoc]

/-- The second loop's value at a place reads the row buffer there only. -/
theorem loop2W_congr (x12 : Vec Ideal S1x512x5120 .bf16) (x20 : Vec Ideal S256x512 .bf16) (x23 : Vec Ideal S256x128 .f32) {a b : Vec Ideal S256x5120 .f32}
    {r : Fin 256} {c : Fin 5120} (h : a (ix2 r c) = b (ix2 r c)) : loop2W x12 x20 x23 a r c = loop2W x12 x20 x23 b r c := by
  unfold loop2W; rw [h]

variable (𝒱 : Variants) (c : Dev nD) (bd : Option 𝒱.V) (i : grid0.Coords) (arg2 : Memref sig .tc .smem S3x4 .i32) (harg2 : arg2.IsWhole) (arg3 : Memref sig .tc .smem S3x4 .f32) (harg3 : arg3.IsWhole) (arg4 : Memref sig .tc .smem S3x4 .f32) (harg4 : arg4.IsWhole) (arg5 : Memref sig .tc .vmem S1x256x5120 .fp8e4m3) (harg5 : arg5.IsWhole) (arg6 : Memref sig .tc .vmem S1x1x256 .f32) (harg6 : arg6.IsWhole) (arg7 : Memref sig .tc .vmem S1x32x256 .fp8e4m3) (harg7 : arg7.IsWhole) (arg8 : Memref sig .tc .vmem S1x1x256 .f32) (harg8 : arg8.IsWhole) (arg9 : Memref sig .tc .vmem S1x32x5120 .fp8e4m3) (harg9 : arg9.IsWhole) (arg10 : Memref sig .tc .vmem S1x1x5120 .f32) (harg10 : arg10.IsWhole) (arg11 : Memref sig .tc .vmem S1x4x256x128 .bf16) (harg11 : arg11.IsWhole) (arg12 : Memref sig .tc .vmem S1x512x5120 .bf16) (harg12 : arg12.IsWhole) (arg13 : Memref sig .tc .vmem S1x1x256 .f32) (harg13 : arg13.IsWhole) (arg14 : Memref sig .tc .vmem S3x1x6912 .f32) (harg14 : arg14.IsWhole) (arg15 : Memref sig .tc .vmem S3x1x6912 .f32) (harg15 : arg15.IsWhole) (arg16 : Memref sig .tc .vmem S3x1x6912 .f32) (harg16 : arg16.IsWhole) (arg17 : Memref sig .tc .vmem S1x256x5120 .fp8e4m3) (harg17 : arg17.IsWhole) (arg18 : Memref sig .tc .vmem S1x5120x256 .f32) (harg18 : arg18.IsWhole) (arg19 : Memref sig .tc .vmem S1x8x128 .f32) (harg19 : arg19.IsWhole) (arg20 : Memref sig .tc .vmem S256x512 .bf16) (harg20 : arg20.IsWhole) (arg21 : Memref sig .tc .vmem S256x32 .fp8e4m3) (harg21 : arg21.IsWhole) (arg22 : Memref sig .tc .vmem S256x5120 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (arg0 : BitVec 32) (arg1 : BitVec 32) (v1 : BitVec 32) (v150 : FVec Ideal S256x128 .f32) (v155 : FVec Ideal S256x128 .f32) (X_arg12 : BufTy.Contents (Elt Ideal) arg12.view.ty) (X_arg20 : BufTy.Contents (Elt Ideal) arg20.view.ty) (X_arg23 : BufTy.Contents (Elt Ideal) arg23.view.ty)

/-- One trip leaves its 512 columns of the row buffer at the loop's value. -/
theorem trip2_w (k : Fin k0_t2_loop.trips) (f_arg22 : BufTy.Contents (Elt Ideal) arg22.view.ty) (f_arg26 : BufTy.Contents (Elt Ideal) arg26.view.ty) (y : S256x5120.Idx) :
    arg22.view.read (Elt Ideal) (arg22.view.writes (Elt Ideal) f_arg22 (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 v1 v150 v155 X_arg12 X_arg20 X_arg23 k f_arg22 f_arg26).1) y
      = if 512 * k.val ≤ (y 1).val ∧ (y 1).val < 512 * k.val + 512 then loop2W (arg12.view.read (Elt Ideal) X_arg12) (arg20.view.read (Elt Ideal) X_arg20) (arg23.view.read (Elt Ideal) X_arg23) (arg22.view.read (Elt Ideal) f_arg22) (y 0) (y 1) else arg22.view.read (Elt Ideal) f_arg22 y := by
  have hk : k.val < 10 := trips2 ▸ k.isLt
  unfold tripL_k0_t2 trip_k0_t2
  dsimp only
  refine read_trip2 arg22.view f_arg22 hk (off12_0 k) (off12_1 k) (off12_2 k) (off12_3 k) _ _ _ _ _ _ _ _ (loop2W (arg12.view.read (Elt Ideal) X_arg12) (arg20.view.read (Elt Ideal) X_arg20) (arg23.view.read (Elt Ideal) X_arg23) (arg22.view.read (Elt Ideal) f_arg22)) ?_ ?_ ?_ ?_ y <;> intro r l <;> sl_unfold_words
  · exact (keep22 _ _ _ _ r l).trans (block2_0 _ _ _ _ (arg12.view.read (Elt Ideal) X_arg12) (arg20.view.read (Elt Ideal) X_arg20) (arg23.view.read (Elt Ideal) X_arg23) (arg22.view.read (Elt Ideal) f_arg22) hk
      (fun r l => rdAt _ _ _ _ (off12_0 k) (idx2 (Nat.zero_add _).symm (by rw [colN_val (by omega)]; omega)))
      (fun q c d hd => rdAt _ _ _ _ (off11_val k) (idx3 val0 (by show 128 + q.val = 128 + q.val; rfl) hd))
      (fun r q => rdAt _ _ _ _ rfl (idx2 (Nat.zero_add _).symm (by show 128 + q.val = 128 + q.val; rfl)))
      (fun r l => rdAt _ _ _ _ rfl (idx2 (Nat.zero_add _).symm (Nat.zero_add _).symm)) r l)
  · exact (keep25 _ _ _ _ r l).trans (block2_1 _ _ _ _ (arg12.view.read (Elt Ideal) X_arg12) (arg20.view.read (Elt Ideal) X_arg20) (arg23.view.read (Elt Ideal) X_arg23) (arg22.view.read (Elt Ideal) f_arg22) hk
      (fun r l => rdAt _ _ _ _ (off12_1 k) (idx2 (Nat.zero_add _).symm (by rw [colN_val (by omega)]; omega)))
      (fun q c d hd => rdAt _ _ _ _ (off11_val k) (idx3 val0 (by show 128 + q.val = 128 + q.val; rfl) hd))
      (fun r q => rdAt _ _ _ _ rfl (idx2 (Nat.zero_add _).symm (by show 128 + q.val = 128 + q.val; rfl)))
      (fun r l => rdAt _ _ _ _ rfl (idx2 (Nat.zero_add _).symm (Nat.zero_add _).symm)) r l)
  · exact (keep60 _ _ _ r l).trans (block2_2 _ _ _ _ (arg12.view.read (Elt Ideal) X_arg12) (arg20.view.read (Elt Ideal) X_arg20) (arg23.view.read (Elt Ideal) X_arg23) (arg22.view.read (Elt Ideal) f_arg22) hk
      (fun r l => rdAt _ _ _ _ (off12_2 k) (idx2 (Nat.zero_add _).symm (by rw [colN_val (by omega)]; omega)))
      (fun q c d hd => rdAt _ _ _ _ (off11_val k) (idx3 val0 (by show 128 + q.val = 128 + q.val; rfl) hd))
      (fun r q => rdAt _ _ _ _ rfl (idx2 (Nat.zero_add _).symm (by show 128 + q.val = 128 + q.val; rfl)))
      (fun r l => rdAt _ _ _ _ rfl (idx2 (Nat.zero_add _).symm (Nat.zero_add _).symm)) r l)
  · exact (keep62 _ _ _ r l).trans (block2_3 _ _ _ _ (arg12.view.read (Elt Ideal) X_arg12) (arg20.view.read (Elt Ideal) X_arg20) (arg23.view.read (Elt Ideal) X_arg23) (arg22.view.read (Elt Ideal) f_arg22) hk
      (fun r l => rdAt _ _ _ _ (off12_3 k) (idx2 (Nat.zero_add _).symm (by rw [colN_val (by omega)]; omega)))
      (fun q c d hd => rdAt _ _ _ _ (off11_val k) (idx3 val0 (by show 128 + q.val = 128 + q.val; rfl) hd))
      (fun r q => rdAt _ _ _ _ rfl (idx2 (Nat.zero_add _).symm (by show 128 + q.val = 128 + q.val; rfl)))
      (fun r l => rdAt _ _ _ _ rfl (idx2 (Nat.zero_add _).symm (Nat.zero_add _).symm)) r l)

/-- One trip raises the running maximum to its four slices' magnitudes. -/
theorem trip2_max (k : Fin k0_t2_loop.trips) (f_arg22 : BufTy.Contents (Elt Ideal) arg22.view.ty) (f_arg26 : BufTy.Contents (Elt Ideal) arg26.view.ty) (r : Fin 256) (l : Fin 128) :
    arg26.view.read (Elt Ideal) (arg26.view.writes (Elt Ideal) f_arg26 (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 v1 v150 v155 X_arg12 X_arg20 X_arg23 k f_arg22 f_arg26).2) (ix2 r l)
      = max (max (max (max (arg26.view.read (Elt Ideal) f_arg26 (ix2 r l))
        (mag (loop2W (arg12.view.read (Elt Ideal) X_arg12) (arg20.view.read (Elt Ideal) X_arg20) (arg23.view.read (Elt Ideal) X_arg23) (arg22.view.read (Elt Ideal) f_arg22) r (colN (4 * k.val + 0) l))))
        (mag (loop2W (arg12.view.read (Elt Ideal) X_arg12) (arg20.view.read (Elt Ideal) X_arg20) (arg23.view.read (Elt Ideal) X_arg23) (arg22.view.read (Elt Ideal) f_arg22) r (colN (4 * k.val + 1) l))))
        (mag (loop2W (arg12.view.read (Elt Ideal) X_arg12) (arg20.view.read (Elt Ideal) X_arg20) (arg23.view.read (Elt Ideal) X_arg23) (arg22.view.read (Elt Ideal) f_arg22) r (colN (4 * k.val + 2) l))))
        (mag (loop2W (arg12.view.read (Elt Ideal) X_arg12) (arg20.view.read (Elt Ideal) X_arg20) (arg23.view.read (Elt Ideal) X_arg23) (arg22.view.read (Elt Ideal) f_arg22) r (colN (4 * k.val + 3) l)))
        := by
  have hk : k.val < 10 := trips2 ▸ k.isLt
  unfold tripL_k0_t2 trip_k0_t2
  dsimp only
  refine (read_store arg26.view f_arg26 _ _ (ix2 r l) (ix2 r l) (idx2 (Nat.zero_add _).symm (Nat.zero_add _).symm)).trans ?_
  sl_unfold_words
  refine (acc2 _ _ _ _ _ _ _ _ _ _ _ r l).trans (sum5 ?_ ?_ ?_ ?_ ?_ (fun x => max x (-x)) (fun a b => max a b))
  · exact rdAt _ _ _ _ rfl (idx2 (Nat.zero_add _).symm (Nat.zero_add _).symm)
  · exact block2_0 _ _ _ _ (arg12.view.read (Elt Ideal) X_arg12) (arg20.view.read (Elt Ideal) X_arg20) (arg23.view.read (Elt Ideal) X_arg23) (arg22.view.read (Elt Ideal) f_arg22) hk
      (fun r l => rdAt _ _ _ _ (off12_0 k) (idx2 (Nat.zero_add _).symm (by rw [colN_val (by omega)]; omega)))
      (fun q c d hd => rdAt _ _ _ _ (off11_val k) (idx3 val0 (by show 128 + q.val = 128 + q.val; rfl) hd))
      (fun r q => rdAt _ _ _ _ rfl (idx2 (Nat.zero_add _).symm (by show 128 + q.val = 128 + q.val; rfl)))
      (fun r l => rdAt _ _ _ _ rfl (idx2 (Nat.zero_add _).symm (Nat.zero_add _).symm)) r l
  · exact block2_1 _ _ _ _ (arg12.view.read (Elt Ideal) X_arg12) (arg20.view.read (Elt Ideal) X_arg20) (arg23.view.read (Elt Ideal) X_arg23) (arg22.view.read (Elt Ideal) f_arg22) hk
      (fun r l => rdAt _ _ _ _ (off12_1 k) (idx2 (Nat.zero_add _).symm (by rw [colN_val (by omega)]; omega)))
      (fun q c d hd => rdAt _ _ _ _ (off11_val k) (idx3 val0 (by show 128 + q.val = 128 + q.val; rfl) hd))
      (fun r q => rdAt _ _ _ _ rfl (idx2 (Nat.zero_add _).symm (by show 128 + q.val = 128 + q.val; rfl)))
      (fun r l => rdAt _ _ _ _ rfl (idx2 (Nat.zero_add _).symm (Nat.zero_add _).symm)) r l
  · exact block2_2 _ _ _ _ (arg12.view.read (Elt Ideal) X_arg12) (arg20.view.read (Elt Ideal) X_arg20) (arg23.view.read (Elt Ideal) X_arg23) (arg22.view.read (Elt Ideal) f_arg22) hk
      (fun r l => rdAt _ _ _ _ (off12_2 k) (idx2 (Nat.zero_add _).symm (by rw [colN_val (by omega)]; omega)))
      (fun q c d hd => rdAt _ _ _ _ (off11_val k) (idx3 val0 (by show 128 + q.val = 128 + q.val; rfl) hd))
      (fun r q => rdAt _ _ _ _ rfl (idx2 (Nat.zero_add _).symm (by show 128 + q.val = 128 + q.val; rfl)))
      (fun r l => rdAt _ _ _ _ rfl (idx2 (Nat.zero_add _).symm (Nat.zero_add _).symm)) r l
  · exact block2_3 _ _ _ _ (arg12.view.read (Elt Ideal) X_arg12) (arg20.view.read (Elt Ideal) X_arg20) (arg23.view.read (Elt Ideal) X_arg23) (arg22.view.read (Elt Ideal) f_arg22) hk
      (fun r l => rdAt _ _ _ _ (off12_3 k) (idx2 (Nat.zero_add _).symm (by rw [colN_val (by omega)]; omega)))
      (fun q c d hd => rdAt _ _ _ _ (off11_val k) (idx3 val0 (by show 128 + q.val = 128 + q.val; rfl) hd))
      (fun r q => rdAt _ _ _ _ rfl (idx2 (Nat.zero_add _).symm (by show 128 + q.val = 128 + q.val; rfl)))
      (fun r l => rdAt _ _ _ _ rfl (idx2 (Nat.zero_add _).symm (Nat.zero_add _).symm)) r l

/-- After `n` trips: the columns below `512 n` at the loop's value, the maximum raised to `4 n` slices' magnitudes. -/
theorem after2 (G_arg22 : BufTy.Contents (Elt Ideal) arg22.view.ty) (G_arg26 : BufTy.Contents (Elt Ideal) arg26.view.ty) (n : ℕ) (hn : n ≤ 10) :
    (∀ y : S256x5120.Idx, arg22.view.read (Elt Ideal) (arg22.view.writes (Elt Ideal) G_arg22 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 v1 v150 v155 X_arg12 X_arg20 X_arg23 G_arg22 G_arg26 n).1) y
        = if (y 1).val < 512 * n then loop2W (arg12.view.read (Elt Ideal) X_arg12) (arg20.view.read (Elt Ideal) X_arg20) (arg23.view.read (Elt Ideal) X_arg23) (arg22.view.read (Elt Ideal) G_arg22) (y 0) (y 1) else arg22.view.read (Elt Ideal) G_arg22 y)
      ∧ ∀ (r : Fin 256) (l : Fin 128), arg26.view.read (Elt Ideal) (arg26.view.writes (Elt Ideal) G_arg26 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 v1 v150 v155 X_arg12 X_arg20 X_arg23 G_arg22 G_arg26 n).2) (ix2 r l)
        = max (arg26.view.read (Elt Ideal) G_arg26 (ix2 r l)) ((Finset.range (4 * n)).sup fun j => mag (loop2W (arg12.view.read (Elt Ideal) X_arg12) (arg20.view.read (Elt Ideal) X_arg20) (arg23.view.read (Elt Ideal) X_arg23) (arg22.view.read (Elt Ideal) G_arg22) r (colN j l))) := by
  induction n with
  | zero =>
    refine ⟨fun y => ?_, fun r l => ?_⟩
    · rw [if_neg (by omega), pb_k0_t2.eq_1]; rfl
    · rw [pb_k0_t2.eq_1, Nat.mul_zero, Finset.range_zero, Finset.sup_empty, max_bot_right]; rfl
  | succ n ih =>
    obtain ⟨ih1, ih2⟩ := ih (by omega)
    have hs := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 v1 v150 v155 X_arg12 X_arg20 X_arg23 G_arg22 G_arg26 ⟨n, by rw [trips2]; omega⟩
    have hsame : ∀ (r : Fin 256) (d : Fin 5120), 512 * n ≤ d.val → loop2W (arg12.view.read (Elt Ideal) X_arg12) (arg20.view.read (Elt Ideal) X_arg20) (arg23.view.read (Elt Ideal) X_arg23) (arg22.view.read (Elt Ideal) (arg22.view.writes (Elt Ideal) G_arg22 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 v1 v150 v155 X_arg12 X_arg20 X_arg23 G_arg22 G_arg26 n).1)) r d
        = loop2W (arg12.view.read (Elt Ideal) X_arg12) (arg20.view.read (Elt Ideal) X_arg20) (arg23.view.read (Elt Ideal) X_arg23) (arg22.view.read (Elt Ideal) G_arg22) r d := fun r d hd => loop2W_congr _ _ _ ((ih1 (ix2 r d)).trans (if_neg (by show ¬ d.val < 512 * n; omega)))
    refine ⟨fun y => ?_, fun r l => ?_⟩
    · rw [show (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 v1 v150 v155 X_arg12 X_arg20 X_arg23 G_arg22 G_arg26 (n + 1)).1 = _ from congrArg Prod.fst hs, View.writes_append, trip2_w, ih1 y]
      by_cases h1 : (y 1).val < 512 * n
      · rw [if_neg (by dsimp only; omega), if_pos h1, if_pos (by omega)]
      · by_cases h2 : (y 1).val < 512 * n + 512
        · rw [if_pos (by dsimp only; omega), if_pos (by omega)]
          exact hsame (y 0) (y 1) (by omega)
        · rw [if_neg (by dsimp only; omega), if_neg h1, if_neg (by omega)]
    · rw [show (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 v1 v150 v155 X_arg12 X_arg20 X_arg23 G_arg22 G_arg26 (n + 1)).2 = _ from congrArg Prod.snd hs, View.writes_append, trip2_max, ih2 r l]
      have hc : ∀ j < 4, 512 * n ≤ (colN (4 * n + j) l).val := fun j hj => by rw [colN_val (by omega)]; omega
      rw [hsame r _ (hc 0 (by omega)), hsame r _ (hc 1 (by omega)), hsame r _ (hc 2 (by omega)), hsame r _ (hc 3 (by omega))]
      rw [show 4 * (n + 1) = 4 * n + 1 + 1 + 1 + 1 by ring, Finset.range_add_one, Finset.sup_insert, Finset.range_add_one, Finset.sup_insert,
        Finset.range_add_one, Finset.sup_insert, Finset.range_add_one, Finset.sup_insert]
      exact max4 _ _ _ _ _ _

set_option warn.classDefReducibility false in
/-- What the second loop leaves, stated by the buffers' readings. -/
instance exit2 (E : Set ℕ) (G_arg22 : BufTy.Contents (Elt Ideal) arg22.view.ty) (G_arg26 : BufTy.Contents (Elt Ideal) arg26.view.ty) :
    LoopExit (loopInv_k0_t2 (F := Ideal) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 v1 v150 v155 X_arg12 X_arg20 X_arg23 G_arg22 G_arg26) where
  post _ := iprop((arg12.view.loc (c : Thread nD τ) ↦[arg12.view.set]{fullShare} X_arg12) ∗ (arg20.view.loc (c : Thread nD τ) ↦[arg20.view.set]{fullShare} X_arg20) ∗ (arg23.view.loc (c : Thread nD τ) ↦[arg23.view.set]{fullShare} X_arg23) ∗ (arg22.view.loc (c : Thread nD τ) ↦[arg22.view.set]{fullShare} (harg22.unread (end2W (arg12.view.read (Elt Ideal) X_arg12) (arg20.view.read (Elt Ideal) X_arg20) (arg23.view.read (Elt Ideal) X_arg23) (arg22.view.read (Elt Ideal) G_arg22)))) ∗ (arg26.view.loc (c : Thread nD τ) ↦[arg26.view.set]{fullShare} (harg26.unread (endMax (fun r c => mag (loop2W (arg12.view.read (Elt Ideal) X_arg12) (arg20.view.read (Elt Ideal) X_arg20) (arg23.view.read (Elt Ideal) X_arg23) (arg22.view.read (Elt Ideal) G_arg22) r c)) (arg26.view.read (Elt Ideal) G_arg26)))))
  exit _ := by
    show inv_k0_t2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 v1 v150 v155 X_arg12 X_arg20 X_arg23 G_arg22 G_arg26 k0_t2_loop.trips _ ⊢ _
    rw [trips2]
    unfold inv_k0_t2
    have h22 : arg22.view.writes (Elt Ideal) G_arg22 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 v1 v150 v155 X_arg12 X_arg20 X_arg23 G_arg22 G_arg26 10).1 = (harg22.unread (end2W (arg12.view.read (Elt Ideal) X_arg12) (arg20.view.read (Elt Ideal) X_arg20) (arg23.view.read (Elt Ideal) X_arg23) (arg22.view.read (Elt Ideal) G_arg22))) := by
      refine harg22.eq_unread (funext fun y => ?_)
      rw [(after2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 v1 v150 v155 X_arg12 X_arg20 X_arg23 G_arg22 G_arg26 10 le_rfl).1 y, if_pos (show (y 1).val < 5120 from (y 1).isLt)]; rfl
    have h26 : arg26.view.writes (Elt Ideal) G_arg26 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 v1 v150 v155 X_arg12 X_arg20 X_arg23 G_arg22 G_arg26 10).2 = (harg26.unread (endMax (fun r c => mag (loop2W (arg12.view.read (Elt Ideal) X_arg12) (arg20.view.read (Elt Ideal) X_arg20) (arg23.view.read (Elt Ideal) X_arg23) (arg22.view.read (Elt Ideal) G_arg22) r c)) (arg26.view.read (Elt Ideal) G_arg26))) := by
      refine harg26.eq_unread (funext fun y => ?_)
      have hy : y = ix2 (n0 := 256) (n1 := 128) (y 0) (y 1) := eq_ix2 (f := y)
      rw [hy]
      exact (after2 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg0 arg1 v1 v150 v155 X_arg12 X_arg20 X_arg23 G_arg22 G_arg26 10 le_rfl).2 (y 0) (y 1)
    iintro ⟨H0, H1, H2, ⟨%fa, HA, %ha⟩, ⟨%fb, HB, %hb⟩⟩
    subst ha hb
    rw [h22, h26]
    isplitl [H0]; · iexact H0
    isplitl [H1]; · iexact H1
    isplitl [H2]; · iexact H2
    isplitl [HA]; · iexact HA
    iexact HB

end Cert.KernelIdeal.Gen
end
-- ==== Proof.ILoop3.lean ====
/- The third loop over the columns, at the extended reals: the codes, the transposed merged weight, and the accumulator of
   squared errors its ten trips leave. -/
module

public import proofs.«01_k».proof.Proof.IShared
public import proofs.«01_k».proof.Proof.ILoop2
public import Idealize.ShloMosaic.Lib.Pointwise
public import Idealize.ShloMosaic.Lib.WholeRead
public import Idealize.ShloMosaic.Lib.VecWindow

@[expose] public section
set_option maxRecDepth 16384
set_option maxHeartbeats 4000000
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The error of a code: the merged weight less the code times the scale. -/
def loop3D (w : Vec Ideal S256x5120 .f32) (m s : Vec Ideal S256x128 .f32) (r : Fin 256) (c : Fin 5120) : EReal :=
  w (ix2 r c) - loop3C w m r c * s (ix2 r (lane c))

/-- The codes after the loop. -/
def end3C (w : Vec Ideal S256x5120 .f32) (m : Vec Ideal S256x128 .f32) : Vec Ideal S1x256x5120 .fp8e4m3 := fun y => loop3C w m (y 1) (y 2)

/-- The transposed merged weight after the loop. -/
def end3T (w : Vec Ideal S256x5120 .f32) : Vec Ideal S1x5120x256 .f32 := fun y => w (ix2 (y 2) (y 1))

theorem err3 {t n : ℕ} (ht : 4 * t + n < 40) {w c s : Vec Ideal S256x128 .f32} {X22 : Vec Ideal S256x5120 .f32} {X23 X24 : Vec Ideal S256x128 .f32} {r : Fin 256} {l : Fin 128}
    (hw : w (ix2 r l) = X22 (ix2 r (colN (4 * t + n) l))) (hc : c (ix2 r l) = loop3C X22 X23 r (colN (4 * t + n) l)) (hs : s (ix2 r l) = X24 (ix2 r l)) :
    w (ix2 r l) - c (ix2 r l) * s (ix2 r l) = loop3D X22 X23 X24 r (colN (4 * t + n) l) := by
  rw [hw, hc, hs]; unfold loop3D; rw [lane_colN ht]

variable (𝒱 : Variants) (c : Dev nD) (bd : Option 𝒱.V) (i : grid0.Coords) (arg2 : Memref sig .tc .smem S3x4 .i32) (harg2 : arg2.IsWhole) (arg3 : Memref sig .tc .smem S3x4 .f32) (harg3 : arg3.IsWhole) (arg4 : Memref sig .tc .smem S3x4 .f32) (harg4 : arg4.IsWhole) (arg5 : Memref sig .tc .vmem S1x256x5120 .fp8e4m3) (harg5 : arg5.IsWhole) (arg6 : Memref sig .tc .vmem S1x1x256 .f32) (harg6 : arg6.IsWhole) (arg7 : Memref sig .tc .vmem S1x32x256 .fp8e4m3) (harg7 : arg7.IsWhole) (arg8 : Memref sig .tc .vmem S1x1x256 .f32) (harg8 : arg8.IsWhole) (arg9 : Memref sig .tc .vmem S1x32x5120 .fp8e4m3) (harg9 : arg9.IsWhole) (arg10 : Memref sig .tc .vmem S1x1x5120 .f32) (harg10 : arg10.IsWhole) (arg11 : Memref sig .tc .vmem S1x4x256x128 .bf16) (harg11 : arg11.IsWhole) (arg12 : Memref sig .tc .vmem S1x512x5120 .bf16) (harg12 : arg12.IsWhole) (arg13 : Memref sig .tc .vmem S1x1x256 .f32) (harg13 : arg13.IsWhole) (arg14 : Memref sig .tc .vmem S3x1x6912 .f32) (harg14 : arg14.IsWhole) (arg15 : Memref sig .tc .vmem S3x1x6912 .f32) (harg15 : arg15.IsWhole) (arg16 : Memref sig .tc .vmem S3x1x6912 .f32) (harg16 : arg16.IsWhole) (arg17 : Memref sig .tc .vmem S1x256x5120 .fp8e4m3) (harg17 : arg17.IsWhole) (arg18 : Memref sig .tc .vmem S1x5120x256 .f32) (harg18 : arg18.IsWhole) (arg19 : Memref sig .tc .vmem S1x8x128 .f32) (harg19 : arg19.IsWhole) (arg20 : Memref sig .tc .vmem S256x512 .bf16) (harg20 : arg20.IsWhole) (arg21 : Memref sig .tc .vmem S256x32 .fp8e4m3) (harg21 : arg21.IsWhole) (arg22 : Memref sig .tc .vmem S256x5120 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (X_arg22 : BufTy.Contents (Elt Ideal) arg22.view.ty) (X_arg23 : BufTy.Contents (Elt Ideal) arg23.view.ty) (X_arg24 : BufTy.Contents (Elt Ideal) arg24.view.ty)

/-- One trip stores its 512 columns' codes. -/
theorem trip3_c (k : Fin k0_t3_loop.trips) (f_arg17 : BufTy.Contents (Elt Ideal) arg17.view.ty) (f_arg18 : BufTy.Contents (Elt Ideal) arg18.view.ty) (f_arg25 : BufTy.Contents (Elt Ideal) arg25.view.ty) (y : S1x256x5120.Idx) :
    arg17.view.read (Elt Ideal) (arg17.view.writes (Elt Ideal) f_arg17 (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 k f_arg17 f_arg18 f_arg25).1) y
      = if 512 * k.val ≤ (y 2).val ∧ (y 2).val < 512 * k.val + 512 then loop3C (arg22.view.read (Elt Ideal) X_arg22) (arg23.view.read (Elt Ideal) X_arg23) (y 1) (y 2) else arg17.view.read (Elt Ideal) f_arg17 y := by
  have hk : k.val < 10 := trips3 ▸ k.isLt
  unfold tripL_k0_t3 trip_k0_t3
  dsimp only
  refine read_tripc arg17.view f_arg17 hk (off15_0 k) (off15_1 k) (off15_2 k) (off15_3 k) _ _ _ _ _ _ _ _ (loop3C (arg22.view.read (Elt Ideal) X_arg22) (arg23.view.read (Elt Ideal) X_arg23)) ?_ ?_ ?_ ?_ y <;> intro r l <;> sl_unfold_words
  · exact (store_29 _ _ r l).trans (block3_0 _ _ (arg22.view.read (Elt Ideal) X_arg22) (arg23.view.read (Elt Ideal) X_arg23) hk (fun r l => (rdAt _ _ _ _ (off13_0 k) (idx2 (Nat.zero_add _).symm (by rw [colN_val (by omega)]; omega)))) (fun r l => (rdAt _ _ _ _ rfl (idx2 (Nat.zero_add _).symm (Nat.zero_add _).symm))) r l)
  · exact (store_34 _ _ r l).trans (block3_1 _ _ (arg22.view.read (Elt Ideal) X_arg22) (arg23.view.read (Elt Ideal) X_arg23) hk (fun r l => (rdAt _ _ _ _ (off13_1 k) (idx2 (Nat.zero_add _).symm (by rw [colN_val (by omega)]; omega)))) (fun r l => (rdAt _ _ _ _ rfl (idx2 (Nat.zero_add _).symm (Nat.zero_add _).symm))) r l)
  · exact (store_38 _ r l).trans (block3_2 _ _ (arg22.view.read (Elt Ideal) X_arg22) (arg23.view.read (Elt Ideal) X_arg23) hk (fun r l => (rdAt _ _ _ _ (off13_2 k) (idx2 (Nat.zero_add _).symm (by rw [colN_val (by omega)]; omega)))) (fun r l => (rdAt _ _ _ _ rfl (idx2 (Nat.zero_add _).symm (Nat.zero_add _).symm))) r l)
  · exact (store_41 _ _ r l).trans (block3_3 _ _ (arg22.view.read (Elt Ideal) X_arg22) (arg23.view.read (Elt Ideal) X_arg23) hk (fun r l => (rdAt _ _ _ _ (off13_3 k) (idx2 (Nat.zero_add _).symm (by rw [colN_val (by omega)]; omega)))) (fun r l => (rdAt _ _ _ _ rfl (idx2 (Nat.zero_add _).symm (Nat.zero_add _).symm))) r l)

/-- One trip stores its 512 columns transposed. -/
theorem trip3_t (k : Fin k0_t3_loop.trips) (f_arg17 : BufTy.Contents (Elt Ideal) arg17.view.ty) (f_arg18 : BufTy.Contents (Elt Ideal) arg18.view.ty) (f_arg25 : BufTy.Contents (Elt Ideal) arg25.view.ty) (y : S1x5120x256.Idx) :
    arg18.view.read (Elt Ideal) (arg18.view.writes (Elt Ideal) f_arg18 (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 k f_arg17 f_arg18 f_arg25).2.1) y
      = if 512 * k.val ≤ (y 1).val ∧ (y 1).val < 512 * k.val + 512 then (arg22.view.read (Elt Ideal) X_arg22) (ix2 (y 2) (y 1)) else arg18.view.read (Elt Ideal) f_arg18 y := by
  have hk : k.val < 10 := trips3 ▸ k.isLt
  unfold tripL_k0_t3 trip_k0_t3
  dsimp only
  refine read_tript arg18.view f_arg18 hk (off14_0 k) (off14_1 k) (off14_2 k) (off14_3 k) _ _ _ _ _ _ _ _ (fun r c => (arg22.view.read (Elt Ideal) X_arg22) (ix2 r c)) ?_ ?_ ?_ ?_ y <;> intro r l <;> sl_unfold_words
  · exact (store_27 _ l r).trans (rdAt _ _ _ _ (off13_0 k) (idx2 (Nat.zero_add _).symm (by rw [colN_val (by omega)]; omega)))
  · exact (store_32 _ l r).trans (rdAt _ _ _ _ (off13_1 k) (idx2 (Nat.zero_add _).symm (by rw [colN_val (by omega)]; omega)))
  · exact (store_36 _ l r).trans (rdAt _ _ _ _ (off13_2 k) (idx2 (Nat.zero_add _).symm (by rw [colN_val (by omega)]; omega)))
  · exact (store_39 _ l r).trans (rdAt _ _ _ _ (off13_3 k) (idx2 (Nat.zero_add _).symm (by rw [colN_val (by omega)]; omega)))

/-- One trip adds its four slices' squared errors to the accumulator. -/
theorem trip3_acc (k : Fin k0_t3_loop.trips) (f_arg17 : BufTy.Contents (Elt Ideal) arg17.view.ty) (f_arg18 : BufTy.Contents (Elt Ideal) arg18.view.ty) (f_arg25 : BufTy.Contents (Elt Ideal) arg25.view.ty) (r : Fin 256) (l : Fin 128) :
    arg25.view.read (Elt Ideal) (arg25.view.writes (Elt Ideal) f_arg25 (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 k f_arg17 f_arg18 f_arg25).2.2) (ix2 r l)
      = arg25.view.read (Elt Ideal) f_arg25 (ix2 r l)
        + loop3D (arg22.view.read (Elt Ideal) X_arg22) (arg23.view.read (Elt Ideal) X_arg23) (arg24.view.read (Elt Ideal) X_arg24) r (colN (4 * k.val + 0) l) * loop3D (arg22.view.read (Elt Ideal) X_arg22) (arg23.view.read (Elt Ideal) X_arg23) (arg24.view.read (Elt Ideal) X_arg24) r (colN (4 * k.val + 0) l)
        + loop3D (arg22.view.read (Elt Ideal) X_arg22) (arg23.view.read (Elt Ideal) X_arg23) (arg24.view.read (Elt Ideal) X_arg24) r (colN (4 * k.val + 1) l) * loop3D (arg22.view.read (Elt Ideal) X_arg22) (arg23.view.read (Elt Ideal) X_arg23) (arg24.view.read (Elt Ideal) X_arg24) r (colN (4 * k.val + 1) l)
        + loop3D (arg22.view.read (Elt Ideal) X_arg22) (arg23.view.read (Elt Ideal) X_arg23) (arg24.view.read (Elt Ideal) X_arg24) r (colN (4 * k.val + 2) l) * loop3D (arg22.view.read (Elt Ideal) X_arg22) (arg23.view.read (Elt Ideal) X_arg23) (arg24.view.read (Elt Ideal) X_arg24) r (colN (4 * k.val + 2) l)
        + loop3D (arg22.view.read (Elt Ideal) X_arg22) (arg23.view.read (Elt Ideal) X_arg23) (arg24.view.read (Elt Ideal) X_arg24) r (colN (4 * k.val + 3) l) * loop3D (arg22.view.read (Elt Ideal) X_arg22) (arg23.view.read (Elt Ideal) X_arg23) (arg24.view.read (Elt Ideal) X_arg24) r (colN (4 * k.val + 3) l)
        := by
  have hk : k.val < 10 := trips3 ▸ k.isLt
  unfold tripL_k0_t3 trip_k0_t3
  dsimp only
  refine (read_store arg25.view f_arg25 _ _ (ix2 r l) (ix2 r l) (idx2 (Nat.zero_add _).symm (Nat.zero_add _).symm)).trans ?_
  sl_unfold_words
  refine (acc3 _ _ _ _ _ _ _ _ _ _ _ _ _ r l).trans (sum5 ?_ ?_ ?_ ?_ ?_ (fun x => x * x) (fun a b => a + b))
  · exact (rdAt _ _ _ _ rfl (idx2 (Nat.zero_add _).symm (Nat.zero_add _).symm))
  · exact err3 (by omega) (rdAt _ _ _ _ (off13_0 k) (idx2 (Nat.zero_add _).symm (by rw [colN_val (by omega)]; omega))) (block3_0 _ _ (arg22.view.read (Elt Ideal) X_arg22) (arg23.view.read (Elt Ideal) X_arg23) hk (fun r l => (rdAt _ _ _ _ (off13_0 k) (idx2 (Nat.zero_add _).symm (by rw [colN_val (by omega)]; omega)))) (fun r l => (rdAt _ _ _ _ rfl (idx2 (Nat.zero_add _).symm (Nat.zero_add _).symm))) r l) (rdAt _ _ _ _ rfl (idx2 (Nat.zero_add _).symm (Nat.zero_add _).symm))
  · exact err3 (by omega) (rdAt _ _ _ _ (off13_1 k) (idx2 (Nat.zero_add _).symm (by rw [colN_val (by omega)]; omega))) (block3_1 _ _ (arg22.view.read (Elt Ideal) X_arg22) (arg23.view.read (Elt Ideal) X_arg23) hk (fun r l => (rdAt _ _ _ _ (off13_1 k) (idx2 (Nat.zero_add _).symm (by rw [colN_val (by omega)]; omega)))) (fun r l => (rdAt _ _ _ _ rfl (idx2 (Nat.zero_add _).symm (Nat.zero_add _).symm))) r l) (rdAt _ _ _ _ rfl (idx2 (Nat.zero_add _).symm (Nat.zero_add _).symm))
  · exact err3 (by omega) (rdAt _ _ _ _ (off13_2 k) (idx2 (Nat.zero_add _).symm (by rw [colN_val (by omega)]; omega))) (block3_2 _ _ (arg22.view.read (Elt Ideal) X_arg22) (arg23.view.read (Elt Ideal) X_arg23) hk (fun r l => (rdAt _ _ _ _ (off13_2 k) (idx2 (Nat.zero_add _).symm (by rw [colN_val (by omega)]; omega)))) (fun r l => (rdAt _ _ _ _ rfl (idx2 (Nat.zero_add _).symm (Nat.zero_add _).symm))) r l) (rdAt _ _ _ _ rfl (idx2 (Nat.zero_add _).symm (Nat.zero_add _).symm))
  · exact err3 (by omega) (rdAt _ _ _ _ (off13_3 k) (idx2 (Nat.zero_add _).symm (by rw [colN_val (by omega)]; omega))) (block3_3 _ _ (arg22.view.read (Elt Ideal) X_arg22) (arg23.view.read (Elt Ideal) X_arg23) hk (fun r l => (rdAt _ _ _ _ (off13_3 k) (idx2 (Nat.zero_add _).symm (by rw [colN_val (by omega)]; omega)))) (fun r l => (rdAt _ _ _ _ rfl (idx2 (Nat.zero_add _).symm (Nat.zero_add _).symm))) r l) (rdAt _ _ _ _ rfl (idx2 (Nat.zero_add _).symm (Nat.zero_add _).symm))

/-- After `n` trips: the codes and the transposed weight of the columns below `512 n`, and `4 n` slices' squared errors. -/
theorem after3 (G_arg17 : BufTy.Contents (Elt Ideal) arg17.view.ty) (G_arg18 : BufTy.Contents (Elt Ideal) arg18.view.ty) (G_arg25 : BufTy.Contents (Elt Ideal) arg25.view.ty) (n : ℕ) (hn : n ≤ 10) :
    (∀ y : S1x256x5120.Idx, arg17.view.read (Elt Ideal) (arg17.view.writes (Elt Ideal) G_arg17 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 G_arg17 G_arg18 G_arg25 n).1) y
        = if (y 2).val < 512 * n then loop3C (arg22.view.read (Elt Ideal) X_arg22) (arg23.view.read (Elt Ideal) X_arg23) (y 1) (y 2) else arg17.view.read (Elt Ideal) G_arg17 y)
      ∧ (∀ y : S1x5120x256.Idx, arg18.view.read (Elt Ideal) (arg18.view.writes (Elt Ideal) G_arg18 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 G_arg17 G_arg18 G_arg25 n).2.1) y
        = if (y 1).val < 512 * n then (arg22.view.read (Elt Ideal) X_arg22) (ix2 (y 2) (y 1)) else arg18.view.read (Elt Ideal) G_arg18 y)
      ∧ ∀ (r : Fin 256) (l : Fin 128), arg25.view.read (Elt Ideal) (arg25.view.writes (Elt Ideal) G_arg25 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 G_arg17 G_arg18 G_arg25 n).2.2) (ix2 r l)
        = arg25.view.read (Elt Ideal) G_arg25 (ix2 r l) + ∑ j ∈ Finset.range (4 * n), loop3D (arg22.view.read (Elt Ideal) X_arg22) (arg23.view.read (Elt Ideal) X_arg23) (arg24.view.read (Elt Ideal) X_arg24) r (colN j l) * loop3D (arg22.view.read (Elt Ideal) X_arg22) (arg23.view.read (Elt Ideal) X_arg23) (arg24.view.read (Elt Ideal) X_arg24) r (colN j l) := by
  induction n with
  | zero =>
    refine ⟨fun y => ?_, fun y => ?_, fun r l => ?_⟩
    · rw [if_neg (by omega), pb_k0_t3.eq_1]; rfl
    · rw [if_neg (by omega), pb_k0_t3.eq_1]; rfl
    · rw [pb_k0_t3.eq_1, Nat.mul_zero, Finset.sum_range_zero, add_zero]; rfl
  | succ n ih =>
    obtain ⟨ih1, ih2, ih3⟩ := ih (by omega)
    have hs := pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 G_arg17 G_arg18 G_arg25 ⟨n, by rw [trips3]; omega⟩
    refine ⟨fun y => ?_, fun y => ?_, fun r l => ?_⟩
    · rw [show (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 G_arg17 G_arg18 G_arg25 (n + 1)).1 = _ from congrArg Prod.fst hs, View.writes_append, trip3_c, ih1 y]
      by_cases h1 : (y 2).val < 512 * n
      · rw [if_neg (by dsimp only; omega), if_pos h1, if_pos (by omega)]
      · by_cases h2 : (y 2).val < 512 * n + 512
        · rw [if_pos (by dsimp only; omega), if_pos (by omega)]
        · rw [if_neg (by dsimp only; omega), if_neg h1, if_neg (by omega)]
    · rw [show (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 G_arg17 G_arg18 G_arg25 (n + 1)).2.1 = _ from congrArg (fun q => q.2.1) hs, View.writes_append, trip3_t, ih2 y]
      by_cases h1 : (y 1).val < 512 * n
      · rw [if_neg (by dsimp only; omega), if_pos h1, if_pos (by omega)]
      · by_cases h2 : (y 1).val < 512 * n + 512
        · rw [if_pos (by dsimp only; omega), if_pos (by omega)]
        · rw [if_neg (by dsimp only; omega), if_neg h1, if_neg (by omega)]
    · rw [show (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 G_arg17 G_arg18 G_arg25 (n + 1)).2.2 = _ from congrArg (fun q => q.2.2) hs, View.writes_append, trip3_acc, ih3 r l]
      rw [show 4 * (n + 1) = 4 * n + 1 + 1 + 1 + 1 by ring, Finset.sum_range_succ, Finset.sum_range_succ, Finset.sum_range_succ, Finset.sum_range_succ]
      simp only [add_assoc, Nat.add_zero]

set_option warn.classDefReducibility false in
/-- What the third loop leaves, stated by the buffers' readings. -/
instance exit3 (E : Set ℕ) (G_arg17 : BufTy.Contents (Elt Ideal) arg17.view.ty) (G_arg18 : BufTy.Contents (Elt Ideal) arg18.view.ty) (G_arg25 : BufTy.Contents (Elt Ideal) arg25.view.ty) :
    LoopExit (loopInv_k0_t3 (F := Ideal) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 G_arg17 G_arg18 G_arg25) where
  post _ := iprop((arg22.view.loc (c : Thread nD τ) ↦[arg22.view.set]{fullShare} X_arg22) ∗ (arg23.view.loc (c : Thread nD τ) ↦[arg23.view.set]{fullShare} X_arg23) ∗ (arg24.view.loc (c : Thread nD τ) ↦[arg24.view.set]{fullShare} X_arg24) ∗ (arg17.view.loc (c : Thread nD τ) ↦[arg17.view.set]{fullShare} (harg17.unread (end3C (arg22.view.read (Elt Ideal) X_arg22) (arg23.view.read (Elt Ideal) X_arg23)))) ∗ (arg18.view.loc (c : Thread nD τ) ↦[arg18.view.set]{fullShare} (harg18.unread (end3T (arg22.view.read (Elt Ideal) X_arg22)))) ∗ (arg25.view.loc (c : Thread nD τ) ↦[arg25.view.set]{fullShare} (harg25.unread (endAcc (fun r c => loop3D (arg22.view.read (Elt Ideal) X_arg22) (arg23.view.read (Elt Ideal) X_arg23) (arg24.view.read (Elt Ideal) X_arg24) r c * loop3D (arg22.view.read (Elt Ideal) X_arg22) (arg23.view.read (Elt Ideal) X_arg23) (arg24.view.read (Elt Ideal) X_arg24) r c) (arg25.view.read (Elt Ideal) G_arg25)))))
  exit _ := by
    show inv_k0_t3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 G_arg17 G_arg18 G_arg25 k0_t3_loop.trips _ ⊢ _
    rw [trips3]
    unfold inv_k0_t3
    have h17 : arg17.view.writes (Elt Ideal) G_arg17 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 G_arg17 G_arg18 G_arg25 10).1 = (harg17.unread (end3C (arg22.view.read (Elt Ideal) X_arg22) (arg23.view.read (Elt Ideal) X_arg23))) := by
      refine harg17.eq_unread (funext fun y => ?_)
      rw [(after3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 G_arg17 G_arg18 G_arg25 10 le_rfl).1 y, if_pos (show (y 2).val < 5120 from (y 2).isLt)]; rfl
    have h18 : arg18.view.writes (Elt Ideal) G_arg18 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 G_arg17 G_arg18 G_arg25 10).2.1 = (harg18.unread (end3T (arg22.view.read (Elt Ideal) X_arg22))) := by
      refine harg18.eq_unread (funext fun y => ?_)
      rw [(after3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 G_arg17 G_arg18 G_arg25 10 le_rfl).2.1 y, if_pos (show (y 1).val < 5120 from (y 1).isLt)]; rfl
    have h25 : arg25.view.writes (Elt Ideal) G_arg25 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 G_arg17 G_arg18 G_arg25 10).2.2 = (harg25.unread (endAcc (fun r c => loop3D (arg22.view.read (Elt Ideal) X_arg22) (arg23.view.read (Elt Ideal) X_arg23) (arg24.view.read (Elt Ideal) X_arg24) r c * loop3D (arg22.view.read (Elt Ideal) X_arg22) (arg23.view.read (Elt Ideal) X_arg23) (arg24.view.read (Elt Ideal) X_arg24) r c) (arg25.view.read (Elt Ideal) G_arg25))) := by
      refine harg25.eq_unread (funext fun y => ?_)
      have hy : y = ix2 (n0 := 256) (n1 := 128) (y 0) (y 1) := eq_ix2 (f := y)
      rw [hy]
      exact (after3 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg22 X_arg23 X_arg24 G_arg17 G_arg18 G_arg25 10 le_rfl).2.2 (y 0) (y 1)
    iintro ⟨H0, H1, H2, ⟨%fa, HA, %ha⟩, ⟨%fb, HB, %hb⟩, ⟨%fd, HD, %hd⟩⟩
    subst ha hb hd
    rw [h17, h18, h25]
    isplitl [H0]; · iexact H0
    isplitl [H1]; · iexact H1
    isplitl [H2]; · iexact H2
    isplitl [HA]; · iexact HA
    isplitl [HB]; · iexact HB
    iexact HD

end Cert.KernelIdeal.Gen
end
-- ==== Proof.Lits.lean ====
/- Facts of the extended reals the two sides share: the literals, a zero test read as a choice, sums and maxima taken slice
   by slice over the lanes, and a product with a reciprocal read as a quotient. -/
module

public import proofs.«01_k».proof.Proof.Row
public import Idealize.ShloMosaic.Lib.ValueIdxCore
public import Idealize.ShloMosaic.Lib.IdealHost
public import Idealize.ShloMosaic.PureOps.Ideal.Laws

@[expose] public section

set_option maxRecDepth 16384

noncomputable section

namespace Cert.Merge

open Idealize.ShloMosaic

theorem lit448 : Ideal.ofBits .f32 0x43E00000#32 = 448 := by
  rw [show (448 : EReal) = ((448 : ℝ) : EReal) by norm_cast]
  simp [Ideal.ofBits, Ideal.ieee, -EReal.coe_mul]; norm_num

theorem litNeg448 : Ideal.ofBits .f32 0xC3E00000#32 = -448 := by
  rw [show (-448 : EReal) = ((-448 : ℝ) : EReal) by rw [EReal.coe_neg]; rfl]
  simp [Ideal.ofBits, Ideal.ieee, -EReal.coe_mul, -EReal.coe_neg]; norm_num

theorem litBot : Ideal.ofBits .f32 0xFF800000#32 = ⊥ := by
  simp [Ideal.ofBits, Ideal.ieee]

/-- A selection on equality with zero is a choice. -/
theorem select_zero (x a b : EReal) :
    Scalar.select (FloatOps.cmpf (F := Ideal) (φ := .f32) .oeq x (Ideal.ofBits .f32 0x00000000#32)) a b = if x = 0 then a else b := by
  rw [Ideal.ofBits_zero_f32]
  show (if Ideal.cmp .oeq x 0 = 1#1 then a else b) = _
  unfold Ideal.cmp
  by_cases h : x = 0 <;> simp [h]

/-- The column `j` slices of 128 to the right of lane `l`. -/
def slot (j : ℕ) (l : Fin 128) : Fin 5120 := ⟨(128 * j + l.val) % 5120, Nat.mod_lt _ (by norm_num)⟩

theorem slot_surj (k : Fin 5120) : ∃ j ∈ Finset.range 40, ∃ l : Fin 128, slot j l = k :=
  ⟨k.val / 128, Finset.mem_range.2 (by have := k.isLt; omega), ⟨k.val % 128, by omega⟩, Fin.ext (by
    show (128 * (k.val / 128) + k.val % 128) % 5120 = k.val
    have := k.isLt; omega)⟩

/-- A sum over the lanes of the slices' sums is the sum over the columns. -/
theorem sum_slots (f : Fin 5120 → EReal) : ∑ l : Fin 128, ∑ j ∈ Finset.range 40, f (slot j l) = ∑ k, f k := by
  simp only [Finset.sum_range]
  rw [Finset.sum_comm, ← Finset.sum_product', ← Fintype.sum_equiv (finProdFinEquiv (m := 40) (n := 128)) (fun p => f (slot p.1.val p.2)) (fun k => f k)
    (fun p => congrArg f (Fin.ext (by
      have h1 := p.1.isLt; have h2 := p.2.isLt
      show (128 * p.1.val + p.2.val) % 5120 = p.2.val + 128 * p.1.val
      omega)))]
  rfl

/-- A magnitude is not negative. -/
theorem mag_nonneg (x : EReal) : 0 ≤ max x (-x) := by
  rcases le_total 0 x with h | h
  · exact le_max_of_le_left h
  · exact le_max_of_le_right (by simpa using EReal.neg_le_neg_iff.2 h)

/-- The largest over the lanes of the slices' largest magnitudes, started at zero, is the largest magnitude. -/
theorem sup_slots (f : Fin 5120 → EReal) :
    (Finset.univ.sup fun l : Fin 128 => max 0 ((Finset.range 40).sup fun j => max (f (slot j l)) (-f (slot j l))))
      = Finset.univ.sup fun k => max (f k) (-f k) := by
  apply le_antisymm
  · refine Finset.sup_le fun l _ => max_le ?_ (Finset.sup_le fun j _ => Finset.le_sup (f := fun k => max (f k) (-f k)) (Finset.mem_univ _))
    exact (mag_nonneg (f ⟨0, by norm_num⟩)).trans (Finset.le_sup (f := fun k => max (f k) (-f k)) (Finset.mem_univ _))
  · refine Finset.sup_le fun k _ => ?_
    obtain ⟨j, hj, l, rfl⟩ := slot_surj k
    refine le_trans ?_ (Finset.le_sup (f := fun l : Fin 128 => max 0 ((Finset.range 40).sup fun j => max (f (slot j l)) (-f (slot j l)))) (Finset.mem_univ l))
    exact le_max_of_le_right (Finset.le_sup (f := fun j => max (f (slot j l)) (-f (slot j l))) hj)

/-- A product with one over a nonzero scale is the quotient. -/
theorem mul_recip (w s : EReal) (hs : s ≠ 0) : w * Ideal.div 1 s = Ideal.div w s := by
  unfold Ideal.div; rw [if_neg hs, if_neg hs, one_mul]

/-- The row's scale is not zero. -/
theorem Row.s8_ne_zero (R : Row) : R.s8 ≠ 0 := by
  have h448 : (448 : EReal) = ((448 : ℝ) : EReal) := rfl
  unfold Row.s8
  split
  · exact one_ne_zero
  · rename_i h
    unfold Ideal.div
    rw [if_neg (by rw [h448]; exact EReal.coe_ne_zero.2 (by norm_num))]
    refine mul_ne_zero h ?_
    rw [h448, ← EReal.coe_inv]
    exact EReal.coe_ne_zero.2 (by norm_num)

/-- A selection on a lane below the rank is a choice. -/
theorem select_slt (lane : ℕ) (rank : BitVec 32) (a b : EReal) :
    Scalar.select (IntOp.cmpi .slt (BitVec.ofNat 32 lane) rank) a b = if (BitVec.ofNat 32 lane).slt rank then a else b := by
  show (if IntOp.cmpi .slt (BitVec.ofNat 32 lane) rank = 1#1 then a else b) = _
  unfold IntOp.cmpi
  by_cases h : (BitVec.ofNat 32 lane).slt rank <;> simp [h]

end Cert.Merge

end
-- ==== Proof.IBlkA.lean ====
/- What one grid point of the merge computes, as functions of the blocks it reads: the adapter factors, the weight before
   renormalisation, its norm, the merged weight, its scale, the codes, and their error. -/
module

public import proofs.«01_k».proof.Proof.IShared
public import proofs.«01_k».proof.Proof.ILoop3
public import proofs.«01_k».proof.Proof.Row
public import proofs.«01_k».proof.Proof.Lits
public import Idealize.ShloMosaic.Lib.Pointwise
public import Idealize.ShloMosaic.Lib.VecWindow

@[expose] public section
set_option maxRecDepth 16384
set_option maxHeartbeats 4000000
noncomputable section
namespace Cert.KernelIdeal.Gen
open Idealize.ShloMosaic Idealize.ShloMosaic.TcCoe Idealize.ShloMosaic.Tactic

open Cert.Merge

/-- The projection a grid point works on. -/
def projOf (i : grid0.Coords) : Fin 3 := ⟨(i 0).val, (i 0).isLt⟩

theorem projOf_nat (i : grid0.Coords) : BitVec.toNat (Scalar.indexCast (BitVec.ofNat 32 (i 0).val)) = (projOf i).val := by
  have h : (i 0).val < 3 := (i 0).isLt
  show BitVec.toNat (BitVec.ofNat 32 (i 0).val) = _
  rw [BitVec.toNat_ofNat]
  exact Nat.mod_eq_of_lt (by omega)

/-- A load of one word from a table of three rows of four. -/
theorem rdS {e : EltTy} (m : Memref sig .tc .smem S3x4 e) (hm : m.IsWhole) (x : Vec Ideal S3x4 e) (i : grid0.Coords) (n : ℕ)
    (p : ∀ a : Fin S3x4.rank, ![BitVec.toNat (Scalar.indexCast (BitVec.ofNat 32 (i 0).val)), n] a + ![1, 1] a ≤ S3x4.size a)
    (q : 0 < (Rect.unit (s := S3x4) ![BitVec.toNat (Scalar.indexCast (BitVec.ofNat 32 (i 0).val)), n] ![1, 1] p).toLoadRect.shape.numel) :
    View.readAt (Elt Ideal) m.view (Rect.unit (s := S3x4) ![BitVec.toNat (Scalar.indexCast (BitVec.ofNat 32 (i 0).val)), n] ![1, 1] p).toLoadRect
      (hm.unread x) (Shape.Idx.first q) = x (ix2 (projOf i) ⟨n, Nat.lt_of_succ_le (p 1)⟩) := by
  refine (rdAt m.view (hm.unread x) (Shape.Idx.first q) (ix2 (projOf i) ⟨n, Nat.lt_of_succ_le (p 1)⟩) rfl ?_).trans (congrFun (hm.read_unread x) _)
  intro a
  fin_cases a
  · exact (projOf_nat i).symm
  · rfl

theorem rdT {e : EltTy} (m : Memref sig .tc .smem S3x4 e) (hm : m.IsWhole) (x : Vec Ideal S3x4 e) (i : grid0.Coords) (n : ℕ)
    (p : ∀ a : Fin S3x4.rank, ![BitVec.toNat (Scalar.indexCast (BitVec.ofNat 32 (i 0).val)), n] a + ![1, 1] a ≤ S3x4.size a)
    (y : (Rect.unit (s := S3x4) ![BitVec.toNat (Scalar.indexCast (BitVec.ofNat 32 (i 0).val)), n] ![1, 1] p).toLoadRect.shape.Idx) :
    View.readAt (Elt Ideal) m.view (Rect.unit (s := S3x4) ![BitVec.toNat (Scalar.indexCast (BitVec.ofNat 32 (i 0).val)), n] ![1, 1] p).toLoadRect
      (hm.unread x) y = x (ix2 (projOf i) ⟨n, Nat.lt_of_succ_le (p 1)⟩) := by
  have hp : 0 < (Rect.unit (s := S3x4) ![BitVec.toNat (Scalar.indexCast (BitVec.ofNat 32 (i 0).val)), n] ![1, 1] p).toLoadRect.shape.numel := by
    show 0 < (1 * (1 * 1)); decide
  have e : y = Shape.Idx.first hp := by
    funext a
    have h1 : (y a).val < (![1, 1] : Fin 2 → ℕ) a := (y a).isLt
    have h2 : (Shape.Idx.first hp a).val < (![1, 1] : Fin 2 → ℕ) a := (Shape.Idx.first hp a).isLt
    have h3 : (![1, 1] : Fin 2 → ℕ) a = 1 := by match a with | ⟨0, _⟩ => rfl | ⟨1, _⟩ => rfl
    exact Fin.ext (by omega)
  rw [e]
  exact rdS m hm x i n p hp

theorem ldA {sp : Space} {e : EltTy} (v : View sig .tc sp S256x128 e) (f : v.ty.Contents (Elt Ideal)) (inb : ∀ a : Fin S256x128.rank, ![0, 0] a + ![256, 128] a ≤ S256x128.size a) :
    v.readAt (Elt Ideal) (Rect.unit (s := S256x128) ![0, 0] ![256, 128] inb).toLoadRect f = v.read (Elt Ideal) f :=
  View.readAt_full v f (off := ![0, 0]) inb

theorem ldB {sp : Space} {e : EltTy} (v : View sig .tc sp S1x32x256 e) (f : v.ty.Contents (Elt Ideal)) (inb : ∀ a : Fin S1x32x256.rank, ![0, 0, 0] a + ![1, 32, 256] a ≤ S1x32x256.size a) :
    v.readAt (Elt Ideal) (Rect.unit (s := S1x32x256) ![0, 0, 0] ![1, 32, 256] inb).toLoadRect f = v.read (Elt Ideal) f :=
  View.readAt_full v f (off := ![0, 0, 0]) inb

theorem ldC {sp : Space} {e : EltTy} (v : View sig .tc sp S1x1x256 e) (f : v.ty.Contents (Elt Ideal)) (inb : ∀ a : Fin S1x1x256.rank, ![0, 0, 0] a + ![1, 1, 256] a ≤ S1x1x256.size a) :
    v.readAt (Elt Ideal) (Rect.unit (s := S1x1x256) ![0, 0, 0] ![1, 1, 256] inb).toLoadRect f = v.read (Elt Ideal) f :=
  View.readAt_full v f (off := ![0, 0, 0]) inb

theorem stA {sp : Space} {e : EltTy} (v : View sig .tc sp S256x128 e) (f : v.ty.Contents (Elt Ideal)) (inb : ∀ a : Fin S256x128.rank, ![0, 0] a + ![256, 128] a ≤ S256x128.size a)
    (w : Vec Ideal S256x128 e) (L : List (View.Piece (Elt Ideal) S256x128 e)) :
    v.read (Elt Ideal) (v.writes (Elt Ideal) f (⟨Rect.unit (s := S256x128) ![0, 0] ![256, 128] inb, w⟩ :: L)) = w :=
  View.read_writes_full v f (off := ![0, 0]) inb w L

theorem stB {sp : Space} {e : EltTy} (v : View sig .tc sp S256x32 e) (f : v.ty.Contents (Elt Ideal)) (inb : ∀ a : Fin S256x32.rank, ![0, 0] a + ![256, 32] a ≤ S256x32.size a)
    (w : Vec Ideal S256x32 e) (L : List (View.Piece (Elt Ideal) S256x32 e)) :
    v.read (Elt Ideal) (v.writes (Elt Ideal) f (⟨Rect.unit (s := S256x32) ![0, 0] ![256, 32] inb, w⟩ :: L)) = w :=
  View.read_writes_full v f (off := ![0, 0]) inb w L

/-- The four adapters' factors side by side. -/
def beOf (rk : Fin 4 → BitVec 32) (st al : Fin 4 → EReal) (x9 : Vec Ideal S1x4x256x128 .bf16) : Vec Ideal S256x512 .bf16 :=
  fun y => cell (x9 (ix4 0 ⟨(y 1).val / 128, Nat.div_lt_of_lt_mul (y 1).isLt⟩ (y 0) ⟨(y 1).val % 128, Nat.mod_lt _ (by decide)⟩))
    (st ⟨(y 1).val / 128, Nat.div_lt_of_lt_mul (y 1).isLt⟩) (al ⟨(y 1).val / 128, Nat.div_lt_of_lt_mul (y 1).isLt⟩)
    (rk ⟨(y 1).val / 128, Nat.div_lt_of_lt_mul (y 1).isLt⟩) ((y 1).val % 128)

theorem adapter_0 (rk : BitVec 32) (st al : EReal) (L : Vec Ideal S1x1x256x128 .bf16) (r : Fin 256) (l : Fin 128) :
    k0_pay43 (F := Ideal) rk st al L (ix2 r l) = cell (L (ix4 0 0 r l)) st al rk l.val := by
  unfold k0_pay43
  pointwise
  refine (select_slt _ _ _ _).trans ?_
  rfl

theorem adapter_1 (rk : BitVec 32) (st al : EReal) (L : Vec Ideal S1x1x256x128 .bf16) (r : Fin 256) (l : Fin 128) :
    k0_pay45 (F := Ideal) (iota Kind.tc S256x128 32 [1] iota_S256x128_d1_w32) rk (k0_pay44 (F := Ideal) rk st al) L (ix2 r l) = cell (L (ix4 0 0 r l)) st al rk l.val := by
  unfold k0_pay45 k0_pay44
  pointwise
  refine (select_slt _ _ _ _).trans ?_
  rfl

theorem adapter_2 (rk : BitVec 32) (st al : EReal) (L : Vec Ideal S1x1x256x128 .bf16) (r : Fin 256) (l : Fin 128) :
    k0_pay46 (F := Ideal) (iota Kind.tc S256x128 32 [1] iota_S256x128_d1_w32) rk st al L (ix2 r l) = cell (L (ix4 0 0 r l)) st al rk l.val := by
  unfold k0_pay46
  pointwise
  refine (select_slt _ _ _ _).trans ?_
  rfl

theorem adapter_3 (rk : BitVec 32) (st al : EReal) (L : Vec Ideal S1x1x256x128 .bf16) (r : Fin 256) (l : Fin 128) :
    k0_pay47 (F := Ideal) (iota Kind.tc S256x128 32 [1] iota_S256x128_d1_w32) rk st al L (ix2 r l) = cell (L (ix4 0 0 r l)) st al rk l.val := by
  unfold k0_pay47
  pointwise
  refine (select_slt _ _ _ _).trans ?_
  rfl

/-- The factors at a column of one adapter. -/
theorem beOf_at (rk : Fin 4 → BitVec 32) (st al : Fin 4 → EReal) (x9 : Vec Ideal S1x4x256x128 .bf16) (y : S256x512.Idx) (s : Fin 4) (l : Fin 128)
    (h : (y 1).val = 128 * s.val + l.val) : cell (x9 (ix4 0 s (y 0) l)) (st s) (al s) (rk s) l.val = beOf rk st al x9 y := by
  have hd : (⟨(y 1).val / 128, Nat.div_lt_of_lt_mul (y 1).isLt⟩ : Fin 4) = s := Fin.ext (by show (y 1).val / 128 = s.val; have := l.isLt; omega)
  have hm : (⟨(y 1).val % 128, Nat.mod_lt _ (by decide)⟩ : Fin 128) = l := Fin.ext (by show (y 1).val % 128 = l.val; have := l.isLt; omega)
  unfold beOf
  rw [hd, hm, show (y 1).val % 128 = l.val from congrArg Fin.val hm]

theorem ld9 (m9 : Memref sig .tc .vmem S1x4x256x128 .bf16) (hm : m9.IsWhole) (x9 : Vec Ideal S1x4x256x128 .bf16) (n : ℕ) (hn : n < 4)
    (g : ∀ a : Fin S1x4x256x128.rank, ![0, n, 0, 0] a + ![1, 1, 256, 128] a ≤ S1x4x256x128.size a) (r : Fin 256) (l : Fin 128) :
    View.readAt (Elt Ideal) m9.view (Rect.unit (s := S1x4x256x128) ![0, n, 0, 0] ![1, 1, 256, 128] g).toLoadRect (hm.unread x9) (ix4 0 0 r l)
      = x9 (ix4 0 ⟨n, hn⟩ r l) := by
  refine (rdAt m9.view (hm.unread x9) (ix4 0 0 r l) (ix4 0 ⟨n, hn⟩ r l) rfl ?_).trans (congrFun (hm.read_unread x9) _)
  intro a
  fin_cases a
  · rfl
  · rfl
  · exact (Nat.zero_add _).symm
  · exact (Nat.zero_add _).symm

/-- The scratch the four adapters' factors are stored to reads as those factors side by side. -/
theorem rdBe (v : View sig .tc .vmem S256x512 .bf16) (f : v.ty.Contents (Elt Ideal)) (m9 : Memref sig .tc .vmem S1x4x256x128 .bf16) (hm : m9.IsWhole)
    (x9 : Vec Ideal S1x4x256x128 .bf16) (r0 r1 r2 r3 : BitVec 32) (s0 s1 s2 s3 a0 a1 a2 a3 : EReal)
    (p0 : ∀ a : Fin S256x512.rank, ![0, 0] a + ![256, 128] a ≤ S256x512.size a) (p1 : ∀ a : Fin S256x512.rank, ![0, 128] a + ![256, 128] a ≤ S256x512.size a) (p2 : ∀ a : Fin S256x512.rank, ![0, 256] a + ![256, 128] a ≤ S256x512.size a) (p3 : ∀ a : Fin S256x512.rank, ![0, 384] a + ![256, 128] a ≤ S256x512.size a)
    (g0 : ∀ a : Fin S1x4x256x128.rank, ![0, 0, 0, 0] a + ![1, 1, 256, 128] a ≤ S1x4x256x128.size a) (g1 : ∀ a : Fin S1x4x256x128.rank, ![0, 1, 0, 0] a + ![1, 1, 256, 128] a ≤ S1x4x256x128.size a) (g2 : ∀ a : Fin S1x4x256x128.rank, ![0, 2, 0, 0] a + ![1, 1, 256, 128] a ≤ S1x4x256x128.size a) (g3 : ∀ a : Fin S1x4x256x128.rank, ![0, 3, 0, 0] a + ![1, 1, 256, 128] a ≤ S1x4x256x128.size a) :
    v.read (Elt Ideal) (v.writes (Elt Ideal) f [⟨Rect.unit (s := S256x512) ![0, 384] ![256, 128] p3, k0_pay47 (F := Ideal) (iota Kind.tc S256x128 32 [1] iota_S256x128_d1_w32) r3 s3 a3 (View.readAt (Elt Ideal) m9.view (Rect.unit (s := S1x4x256x128) ![0, 3, 0, 0] ![1, 1, 256, 128] g3).toLoadRect (hm.unread x9))⟩, ⟨Rect.unit (s := S256x512) ![0, 256] ![256, 128] p2, k0_pay46 (F := Ideal) (iota Kind.tc S256x128 32 [1] iota_S256x128_d1_w32) r2 s2 a2 (View.readAt (Elt Ideal) m9.view (Rect.unit (s := S1x4x256x128) ![0, 2, 0, 0] ![1, 1, 256, 128] g2).toLoadRect (hm.unread x9))⟩, ⟨Rect.unit (s := S256x512) ![0, 128] ![256, 128] p1, k0_pay45 (F := Ideal) (iota Kind.tc S256x128 32 [1] iota_S256x128_d1_w32) r1 (k0_pay44 (F := Ideal) r1 s1 a1) (View.readAt (Elt Ideal) m9.view (Rect.unit (s := S1x4x256x128) ![0, 1, 0, 0] ![1, 1, 256, 128] g1).toLoadRect (hm.unread x9))⟩, ⟨Rect.unit (s := S256x512) ![0, 0] ![256, 128] p0, k0_pay43 (F := Ideal) r0 s0 a0 (View.readAt (Elt Ideal) m9.view (Rect.unit (s := S1x4x256x128) ![0, 0, 0, 0] ![1, 1, 256, 128] g0).toLoadRect (hm.unread x9))⟩])
      = beOf ![r0, r1, r2, r3] ![s0, s1, s2, s3] ![a0, a1, a2, a3] x9 := by
  funext y
  have hr : (y 0).val < 256 := (y 0).isLt
  have hq : (y 1).val < 512 := (y 1).isLt
  by_cases h3 : 384 ≤ (y 1).val
  · refine (View.read_writes_cons_unit_of_mem v f p3 _ _ y (ix2 (y 0) ⟨(y 1).val - 384, by omega⟩) rfl (by intro a; fin_cases a; exact (Nat.zero_add _).symm; show (y 1).val = 384 + ((y 1).val - 384); omega)).trans ?_
    refine (adapter_3 _ _ _ _ (y 0) ⟨(y 1).val - 384, by omega⟩).trans ?_
    refine (congrArg (fun z => cell z s3 a3 r3 _) (ld9 m9 hm x9 3 (by decide) g3 (y 0) ⟨(y 1).val - 384, by omega⟩)).trans ?_
    exact beOf_at ![r0, r1, r2, r3] ![s0, s1, s2, s3] ![a0, a1, a2, a3] x9 y 3 ⟨(y 1).val - 384, by omega⟩ (by show (y 1).val = 128 * 3 + ((y 1).val - 384); omega)
  refine (View.read_writes_cons_unit_of_not_mem v f p3 _ _ y rfl 1 (.inl (by show (y 1).val < 384; omega))).trans ?_
  by_cases h2 : 256 ≤ (y 1).val
  · refine (View.read_writes_cons_unit_of_mem v f p2 _ _ y (ix2 (y 0) ⟨(y 1).val - 256, by omega⟩) rfl (by intro a; fin_cases a; exact (Nat.zero_add _).symm; show (y 1).val = 256 + ((y 1).val - 256); omega)).trans ?_
    refine (adapter_2 _ _ _ _ (y 0) ⟨(y 1).val - 256, by omega⟩).trans ?_
    refine (congrArg (fun z => cell z s2 a2 r2 _) (ld9 m9 hm x9 2 (by decide) g2 (y 0) ⟨(y 1).val - 256, by omega⟩)).trans ?_
    exact beOf_at ![r0, r1, r2, r3] ![s0, s1, s2, s3] ![a0, a1, a2, a3] x9 y 2 ⟨(y 1).val - 256, by omega⟩ (by show (y 1).val = 128 * 2 + ((y 1).val - 256); omega)
  refine (View.read_writes_cons_unit_of_not_mem v f p2 _ _ y rfl 1 (.inl (by show (y 1).val < 256; omega))).trans ?_
  by_cases h1 : 128 ≤ (y 1).val
  · refine (View.read_writes_cons_unit_of_mem v f p1 _ _ y (ix2 (y 0) ⟨(y 1).val - 128, by omega⟩) rfl (by intro a; fin_cases a; exact (Nat.zero_add _).symm; show (y 1).val = 128 + ((y 1).val - 128); omega)).trans ?_
    refine (adapter_1 _ _ _ _ (y 0) ⟨(y 1).val - 128, by omega⟩).trans ?_
    refine (congrArg (fun z => cell z s1 a1 r1 _) (ld9 m9 hm x9 1 (by decide) g1 (y 0) ⟨(y 1).val - 128, by omega⟩)).trans ?_
    exact beOf_at ![r0, r1, r2, r3] ![s0, s1, s2, s3] ![a0, a1, a2, a3] x9 y 1 ⟨(y 1).val - 128, by omega⟩ (by show (y 1).val = 128 * 1 + ((y 1).val - 128); omega)
  refine (View.read_writes_cons_unit_of_not_mem v f p1 _ _ y rfl 1 (.inl (by show (y 1).val < 128; omega))).trans ?_
  refine (View.read_writes_cons_unit_of_mem v f p0 _ _ y (ix2 (y 0) ⟨(y 1).val, by omega⟩) rfl (by intro a; fin_cases a; exact (Nat.zero_add _).symm; exact (Nat.zero_add _).symm)).trans ?_
  refine (adapter_0 _ _ _ _ (y 0) ⟨(y 1).val, by omega⟩).trans ?_
  refine (congrArg (fun z => cell z s0 a0 r0 _) (ld9 m9 hm x9 0 (by decide) g0 (y 0) ⟨(y 1).val, by omega⟩)).trans ?_
  exact beOf_at ![r0, r1, r2, r3] ![s0, s1, s2, s3] ![a0, a1, a2, a3] x9 y 0 ⟨(y 1).val, by omega⟩ (by show (y 1).val = 128 * 0 + (y 1).val; omega)

variable (i : grid0.Coords) (x0 : Vec Ideal S3x4 .i32) (x1 x2 : Vec Ideal S3x4 .f32) (x3 : Vec Ideal S1x256x5120 .fp8e4m3) (x4 : Vec Ideal S1x1x256 .f32)
  (x5 : Vec Ideal S1x32x256 .fp8e4m3) (x6 : Vec Ideal S1x1x256 .f32) (x7 : Vec Ideal S1x32x5120 .fp8e4m3) (x8 : Vec Ideal S1x1x5120 .f32)
  (x9 : Vec Ideal S1x4x256x128 .bf16) (x10 : Vec Ideal S1x512x5120 .bf16) (x11 : Vec Ideal S1x1x256 .f32)

/-- The same with the scalars read from a projection's row. -/
theorem rdBlk (v : View sig .tc .vmem S256x512 .bf16) (f : v.ty.Contents (Elt Ideal)) (m9 : Memref sig .tc .vmem S1x4x256x128 .bf16) (hm : m9.IsWhole)
    (j : Fin 3) (q0 : 0 < 4) (q1 : 1 < 4) (q2 : 2 < 4) (q3 : 3 < 4)
    (p0 : ∀ a : Fin S256x512.rank, ![0, 0] a + ![256, 128] a ≤ S256x512.size a) (p1 : ∀ a : Fin S256x512.rank, ![0, 128] a + ![256, 128] a ≤ S256x512.size a) (p2 : ∀ a : Fin S256x512.rank, ![0, 256] a + ![256, 128] a ≤ S256x512.size a) (p3 : ∀ a : Fin S256x512.rank, ![0, 384] a + ![256, 128] a ≤ S256x512.size a)
    (g0 : ∀ a : Fin S1x4x256x128.rank, ![0, 0, 0, 0] a + ![1, 1, 256, 128] a ≤ S1x4x256x128.size a) (g1 : ∀ a : Fin S1x4x256x128.rank, ![0, 1, 0, 0] a + ![1, 1, 256, 128] a ≤ S1x4x256x128.size a) (g2 : ∀ a : Fin S1x4x256x128.rank, ![0, 2, 0, 0] a + ![1, 1, 256, 128] a ≤ S1x4x256x128.size a) (g3 : ∀ a : Fin S1x4x256x128.rank, ![0, 3, 0, 0] a + ![1, 1, 256, 128] a ≤ S1x4x256x128.size a) :
    v.read (Elt Ideal) (v.writes (Elt Ideal) f [⟨Rect.unit (s := S256x512) ![0, 384] ![256, 128] p3, k0_pay47 (F := Ideal) (iota Kind.tc S256x128 32 [1] iota_S256x128_d1_w32) (x0 (ix2 j ⟨3, q3⟩)) (x2 (ix2 j ⟨3, q3⟩)) (x1 (ix2 j ⟨3, q3⟩)) (View.readAt (Elt Ideal) m9.view (Rect.unit (s := S1x4x256x128) ![0, 3, 0, 0] ![1, 1, 256, 128] g3).toLoadRect (hm.unread x9))⟩, ⟨Rect.unit (s := S256x512) ![0, 256] ![256, 128] p2, k0_pay46 (F := Ideal) (iota Kind.tc S256x128 32 [1] iota_S256x128_d1_w32) (x0 (ix2 j ⟨2, q2⟩)) (x2 (ix2 j ⟨2, q2⟩)) (x1 (ix2 j ⟨2, q2⟩)) (View.readAt (Elt Ideal) m9.view (Rect.unit (s := S1x4x256x128) ![0, 2, 0, 0] ![1, 1, 256, 128] g2).toLoadRect (hm.unread x9))⟩, ⟨Rect.unit (s := S256x512) ![0, 128] ![256, 128] p1, k0_pay45 (F := Ideal) (iota Kind.tc S256x128 32 [1] iota_S256x128_d1_w32) (x0 (ix2 j ⟨1, q1⟩)) (k0_pay44 (F := Ideal) (x0 (ix2 j ⟨1, q1⟩)) (x2 (ix2 j ⟨1, q1⟩)) (x1 (ix2 j ⟨1, q1⟩))) (View.readAt (Elt Ideal) m9.view (Rect.unit (s := S1x4x256x128) ![0, 1, 0, 0] ![1, 1, 256, 128] g1).toLoadRect (hm.unread x9))⟩, ⟨Rect.unit (s := S256x512) ![0, 0] ![256, 128] p0, k0_pay43 (F := Ideal) (x0 (ix2 j ⟨0, q0⟩)) (x2 (ix2 j ⟨0, q0⟩)) (x1 (ix2 j ⟨0, q0⟩)) (View.readAt (Elt Ideal) m9.view (Rect.unit (s := S1x4x256x128) ![0, 0, 0, 0] ![1, 1, 256, 128] g0).toLoadRect (hm.unread x9))⟩])
      = beOf ![x0 (ix2 j 0), x0 (ix2 j 1), x0 (ix2 j 2), x0 (ix2 j 3)] ![x2 (ix2 j 0), x2 (ix2 j 1), x2 (ix2 j 2), x2 (ix2 j 3)] ![x1 (ix2 j 0), x1 (ix2 j 1), x1 (ix2 j 2), x1 (ix2 j 3)] x9 :=
  rdBe v f m9 hm x9 (x0 (ix2 j 0)) (x0 (ix2 j 1)) (x0 (ix2 j 2)) (x0 (ix2 j 3)) (x2 (ix2 j 0)) (x2 (ix2 j 1)) (x2 (ix2 j 2)) (x2 (ix2 j 3)) (x1 (ix2 j 0)) (x1 (ix2 j 1)) (x1 (ix2 j 2)) (x1 (ix2 j 3)) p0 p1 p2 p3 g0 g1 g2 g3

/-- The adapters' scaled and masked factors at a grid point. -/
def blkBe : Vec Ideal S256x512 .bf16 :=
  beOf ![x0 (ix2 (projOf i) 0), x0 (ix2 (projOf i) 1), x0 (ix2 (projOf i) 2), x0 (ix2 (projOf i) 3)]
    ![x2 (ix2 (projOf i) 0), x2 (ix2 (projOf i) 1), x2 (ix2 (projOf i) 2), x2 (ix2 (projOf i) 3)]
    ![x1 (ix2 (projOf i) 0), x1 (ix2 (projOf i) 1), x1 (ix2 (projOf i) 2), x1 (ix2 (projOf i) 3)] x9

/-- The weight before renormalisation. -/
def blkV : Fin 256 → Fin 5120 → EReal :=
  fun r c => loop1V x3 x7 x8 x10 (blkBe i x0 x1 x2 x9) (k0_pay48 (F := Ideal) x5) (k0_pay49 (F := Ideal) x4) (k0_pay50 (F := Ideal) x6) r c

/-- The lanes' sums of its squares. -/
def blkAcc : Vec Ideal S256x128 .f32 :=
  endAcc (fun r c => blkV i x0 x1 x2 x3 x4 x5 x6 x7 x8 x9 x10 r c * blkV i x0 x1 x2 x3 x4 x5 x6 x7 x8 x9 x10 r c) (k0_pay51 (F := Ideal))

/-- The rows' factors. -/
def blkM : Vec Ideal S256x128 .f32 :=
  k0_pay57 (F := Ideal) (k0_pay55 (F := Ideal) (blkAcc i x0 x1 x2 x3 x4 x5 x6 x7 x8 x9 x10)) (k0_pay56 (F := Ideal) x11)

/-- The merged weight. -/
def blkW : Fin 256 → Fin 5120 → EReal :=
  fun r c => loop2W x10 (blkBe i x0 x1 x2 x9) (blkM i x0 x1 x2 x3 x4 x5 x6 x7 x8 x9 x10 x11)
    (fun y => blkV i x0 x1 x2 x3 x4 x5 x6 x7 x8 x9 x10 (y 0) (y 1)) r c

/-- The lanes' largest magnitudes. -/
def blkAmax : Vec Ideal S256x128 .f32 :=
  endMax (fun r c => mag (blkW i x0 x1 x2 x3 x4 x5 x6 x7 x8 x9 x10 x11 r c)) (k0_pay58 (F := Ideal))

/-- The codes. -/
def blkC : Vec Ideal S1x256x5120 .fp8e4m3 :=
  end3C (fun y => blkW i x0 x1 x2 x3 x4 x5 x6 x7 x8 x9 x10 x11 (y 0) (y 1)) (k0_pay3 (F := Ideal) (k0_pay65 (F := Ideal) (blkAmax i x0 x1 x2 x3 x4 x5 x6 x7 x8 x9 x10 x11)))

/-- The merged weight transposed. -/
def blkT : Vec Ideal S1x5120x256 .f32 := end3T (fun y => blkW i x0 x1 x2 x3 x4 x5 x6 x7 x8 x9 x10 x11 (y 0) (y 1))

/-- The codes' differences to the weight. -/
def blkD : Fin 256 → Fin 5120 → EReal :=
  fun r c => loop3D (fun y => blkW i x0 x1 x2 x3 x4 x5 x6 x7 x8 x9 x10 x11 (y 0) (y 1)) (k0_pay3 (F := Ideal) (k0_pay65 (F := Ideal) (blkAmax i x0 x1 x2 x3 x4 x5 x6 x7 x8 x9 x10 x11)))
    (k0_pay2 (F := Ideal) (k0_pay65 (F := Ideal) (blkAmax i x0 x1 x2 x3 x4 x5 x6 x7 x8 x9 x10 x11))) r c

/-- The lanes' sums of their squares. -/
def blkE : Vec Ideal S256x128 .f32 :=
  endAcc (fun r c => blkD i x0 x1 x2 x3 x4 x5 x6 x7 x8 x9 x10 x11 r c * blkD i x0 x1 x2 x3 x4 x5 x6 x7 x8 x9 x10 x11 r c) (k0_pay4 (F := Ideal))

end Cert.KernelIdeal.Gen
end
-- ==== Proof.IRunA.lean ====
/- One grid point's run over the extended reals, at the first point of a projection: from the blocks it reads, what it leaves in its
   results' buffers. -/
module

public import proofs.«01_k».proof.Proof.IBlkA
public import proofs.«01_k».proof.Proof.IShared

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 8000000 in
/-- The body's run: the inputs kept, the results' buffers holding what the point computes. -/
theorem idealRun_A (c : Dev nD) (i : grid0.Coords) (arg2 : Memref sig .tc .smem S3x4 .i32) (harg2 : arg2.IsWhole) (arg3 : Memref sig .tc .smem S3x4 .f32) (harg3 : arg3.IsWhole) (arg4 : Memref sig .tc .smem S3x4 .f32) (harg4 : arg4.IsWhole) (arg5 : Memref sig .tc .vmem S1x256x5120 .fp8e4m3) (harg5 : arg5.IsWhole) (arg6 : Memref sig .tc .vmem S1x1x256 .f32) (harg6 : arg6.IsWhole) (arg7 : Memref sig .tc .vmem S1x32x256 .fp8e4m3) (harg7 : arg7.IsWhole) (arg8 : Memref sig .tc .vmem S1x1x256 .f32) (harg8 : arg8.IsWhole) (arg9 : Memref sig .tc .vmem S1x32x5120 .fp8e4m3) (harg9 : arg9.IsWhole) (arg10 : Memref sig .tc .vmem S1x1x5120 .f32) (harg10 : arg10.IsWhole) (arg11 : Memref sig .tc .vmem S1x4x256x128 .bf16) (harg11 : arg11.IsWhole) (arg12 : Memref sig .tc .vmem S1x512x5120 .bf16) (harg12 : arg12.IsWhole) (arg13 : Memref sig .tc .vmem S1x1x256 .f32) (harg13 : arg13.IsWhole) (arg14 : Memref sig .tc .vmem S3x1x6912 .f32) (harg14 : arg14.IsWhole) (arg15 : Memref sig .tc .vmem S3x1x6912 .f32) (harg15 : arg15.IsWhole) (arg16 : Memref sig .tc .vmem S3x1x6912 .f32) (harg16 : arg16.IsWhole) (arg17 : Memref sig .tc .vmem S1x256x5120 .fp8e4m3) (harg17 : arg17.IsWhole) (arg18 : Memref sig .tc .vmem S1x5120x256 .f32) (harg18 : arg18.IsWhole) (arg19 : Memref sig .tc .vmem S1x8x128 .f32) (harg19 : arg19.IsWhole) (arg20 : Memref sig .tc .vmem S256x512 .bf16) (harg20 : arg20.IsWhole) (arg21 : Memref sig .tc .vmem S256x32 .fp8e4m3) (harg21 : arg21.IsWhole) (arg22 : Memref sig .tc .vmem S256x5120 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (hc0 : cond0_0 i) (hc1 : ¬cond0_1 i)
    (x0 : Vec Ideal S3x4 .i32) (x1 : Vec Ideal S3x4 .f32) (x2 : Vec Ideal S3x4 .f32) (x3 : Vec Ideal S1x256x5120 .fp8e4m3) (x4 : Vec Ideal S1x1x256 .f32) (x5 : Vec Ideal S1x32x256 .fp8e4m3) (x6 : Vec Ideal S1x1x256 .f32) (x7 : Vec Ideal S1x32x5120 .fp8e4m3) (x8 : Vec Ideal S1x1x5120 .f32) (x9 : Vec Ideal S1x4x256x128 .bf16) (x10 : Vec Ideal S1x512x5120 .bf16) (x11 : Vec Ideal S1x1x256 .f32)
    (x12 x13 x14 : Vec Ideal S3x1x6912 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (VecWindow.put x12 (k0_off10 i) ![1, 1, 256] (k0_pay54 (F := Ideal) (blkAcc i x0 x1 x2 x3 x4 x5 x6 x7 x8 x9 x10))) ∗ owns (c : Thread nD τ) arg15 fullShare (VecWindow.put x13 (k0_off10 i) ![1, 1, 256] (k0_pay5 (F := Ideal) (blkE i x0 x1 x2 x3 x4 x5 x6 x7 x8 x9 x10 x11))) ∗ owns (c : Thread nD τ) arg16 fullShare (VecWindow.put x14 (k0_off10 i) ![1, 1, 256] (k0_pay66 (F := Ideal) (blkAmax i x0 x1 x2 x3 x4 x5 x6 x7 x8 x9 x10 x11))) ∗ owns (c : Thread nD τ) arg17 fullShare (blkC i x0 x1 x2 x3 x4 x5 x6 x7 x8 x9 x10 x11) ∗ owns (c : Thread nD τ) arg18 fullShare (blkT i x0 x1 x2 x3 x4 x5 x6 x7 x8 x9 x10 x11) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := Ideal)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    intro E K
    simp only [cc0_merge_eq_skeleton]; unfold cc0_merge_skel
    simp only [k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    obtain rfl := harg14.eq_unread hf12; obtain rfl := harg15.eq_unread hf13; obtain rfl := harg16.eq_unread hf14
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HL0]
    · iexists _; isplitr; · ipureintro; exact harg5.read_unread _
      iexact HL0
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HL1]
    · iexists _; isplitr; · ipureintro; exact harg9.read_unread _
      iexact HL1
    isplitl [HL2]
    · iexists _; isplitr; · ipureintro; exact harg10.read_unread _
      iexact HL2
    isplitl [H9]
    · iexists _; isplitr; · ipureintro; exact harg11.read_unread _
      iexact H9
    isplitl [HL10]
    · iexists _; isplitr; · ipureintro; exact harg12.read_unread _
      iexact HL10
    isplitl [H11]
    · iexists _; isplitr; · ipureintro; exact harg13.read_unread _
      iexact H11
    isplitl [H12]
    · iexists _; isplitr; swap; · iexact H12
      ipureintro
      sl_unfold_words
      set_option backward.isDefEq.respectTransparency.types false in
      simp only [Memref.IsWhole.read_unread, rdT, ldA, ldB, ldC, stA, stB, View.readCov_full, View.readAt_writes_full]
      refine (View.read_writes_cons_put _ _ (s := S3x1x6912) (off' := k0_off10 i) _ _ _ rfl).trans ?_
      simp only [View.writes_nil, Memref.IsWhole.read_unread]
      rw [rdBlk]
      rfl
    isplitl [H13]
    · iexists _; isplitr; swap; · iexact H13
      ipureintro
      sl_unfold_words
      set_option backward.isDefEq.respectTransparency.types false in
      simp only [Memref.IsWhole.read_unread, rdT, ldA, ldB, ldC, stA, stB, View.readCov_full, View.readAt_writes_full]
      refine (View.read_writes_cons_put _ _ (s := S3x1x6912) (off' := k0_off10 i) _ _ _ rfl).trans ?_
      simp only [View.writes_nil, Memref.IsWhole.read_unread]
      rw [rdBlk]
      rfl
    isplitl [H14]
    · iexists _; isplitr; swap; · iexact H14
      ipureintro
      sl_unfold_words
      set_option backward.isDefEq.respectTransparency.types false in
      simp only [Memref.IsWhole.read_unread, rdT, ldA, ldB, ldC, stA, stB, View.readCov_full, View.readAt_writes_full]
      refine (View.read_writes_cons_put _ _ (s := S3x1x6912) (off' := k0_off10 i) _ _ _ rfl).trans ?_
      simp only [View.writes_nil, Memref.IsWhole.read_unread]
      rw [rdBlk]
      rfl
    isplitl [HL18]
    · iexists _; isplitr; swap; · iexact HL18
      ipureintro
      sl_unfold_words
      set_option backward.isDefEq.respectTransparency.types false in
      simp only [Memref.IsWhole.read_unread, rdT, ldA, ldB, ldC, stA, stB, View.readCov_full, View.readAt_writes_full]
      rw [rdBlk]
      rfl
    isplitl [HL19]
    · iexists _; isplitr; swap; · iexact HL19
      ipureintro
      sl_unfold_words
      set_option backward.isDefEq.respectTransparency.types false in
      simp only [Memref.IsWhole.read_unread, rdT, ldA, ldB, ldC, stA, stB, View.readCov_full, View.readAt_writes_full]
      rw [rdBlk]
      rfl
    isplitl [H17]
    · iexists _, _; isplitr; swap; · iexact H17
      ipureintro; rfl
    isplitl [HL11]
    · iexists _, _; isplitr; swap; · iexact HL11
      ipureintro; rfl
    isplitl [HL5]
    · iexists _, _; isplitr; swap; · iexact HL5
      ipureintro; rfl
    isplitl [HL15]
    · iexists _, _; isplitr; swap; · iexact HL15
      ipureintro; rfl
    isplitl [HL16]
    · iexists _, _; isplitr; swap; · iexact HL16
      ipureintro; rfl
    isplitl [HL17]
    · iexists _, _; isplitr; swap; · iexact HL17
      ipureintro; rfl
    isplitl [HL20]
    · iexists _, _; isplitr; swap; · iexact HL20
      ipureintro; rfl
    iexists _, _; isplitr; swap; · iexact HL14
    ipureintro; rfl

end Cert.KernelIdeal.Gen

end
-- ==== Proof.IRunB.lean ====
/- One grid point's run over the extended reals, at the later points of a projection: from the blocks it reads, what it leaves in its
   results' buffers. -/
module

public import proofs.«01_k».proof.Proof.IBlkA
public import proofs.«01_k».proof.Proof.IShared

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- (the run's proof term is large: checking it walks past the default budget)
set_option maxHeartbeats 8000000 in
/-- The body's run: the inputs kept, the results' buffers holding what the point computes. -/
theorem idealRun_B (c : Dev nD) (i : grid0.Coords) (arg2 : Memref sig .tc .smem S3x4 .i32) (harg2 : arg2.IsWhole) (arg3 : Memref sig .tc .smem S3x4 .f32) (harg3 : arg3.IsWhole) (arg4 : Memref sig .tc .smem S3x4 .f32) (harg4 : arg4.IsWhole) (arg5 : Memref sig .tc .vmem S1x256x5120 .fp8e4m3) (harg5 : arg5.IsWhole) (arg6 : Memref sig .tc .vmem S1x1x256 .f32) (harg6 : arg6.IsWhole) (arg7 : Memref sig .tc .vmem S1x32x256 .fp8e4m3) (harg7 : arg7.IsWhole) (arg8 : Memref sig .tc .vmem S1x1x256 .f32) (harg8 : arg8.IsWhole) (arg9 : Memref sig .tc .vmem S1x32x5120 .fp8e4m3) (harg9 : arg9.IsWhole) (arg10 : Memref sig .tc .vmem S1x1x5120 .f32) (harg10 : arg10.IsWhole) (arg11 : Memref sig .tc .vmem S1x4x256x128 .bf16) (harg11 : arg11.IsWhole) (arg12 : Memref sig .tc .vmem S1x512x5120 .bf16) (harg12 : arg12.IsWhole) (arg13 : Memref sig .tc .vmem S1x1x256 .f32) (harg13 : arg13.IsWhole) (arg14 : Memref sig .tc .vmem S3x1x6912 .f32) (harg14 : arg14.IsWhole) (arg15 : Memref sig .tc .vmem S3x1x6912 .f32) (harg15 : arg15.IsWhole) (arg16 : Memref sig .tc .vmem S3x1x6912 .f32) (harg16 : arg16.IsWhole) (arg17 : Memref sig .tc .vmem S1x256x5120 .fp8e4m3) (harg17 : arg17.IsWhole) (arg18 : Memref sig .tc .vmem S1x5120x256 .f32) (harg18 : arg18.IsWhole) (arg19 : Memref sig .tc .vmem S1x8x128 .f32) (harg19 : arg19.IsWhole) (arg20 : Memref sig .tc .vmem S256x512 .bf16) (harg20 : arg20.IsWhole) (arg21 : Memref sig .tc .vmem S256x32 .fp8e4m3) (harg21 : arg21.IsWhole) (arg22 : Memref sig .tc .vmem S256x5120 .f32) (harg22 : arg22.IsWhole) (arg23 : Memref sig .tc .vmem S256x128 .f32) (harg23 : arg23.IsWhole) (arg24 : Memref sig .tc .vmem S256x128 .f32) (harg24 : arg24.IsWhole) (arg25 : Memref sig .tc .vmem S256x128 .f32) (harg25 : arg25.IsWhole) (arg26 : Memref sig .tc .vmem S256x128 .f32) (harg26 : arg26.IsWhole) (hc0 : ¬cond0_0 i) (hc1 : cond0_1 i)
    (x0 : Vec Ideal S3x4 .i32) (x1 : Vec Ideal S3x4 .f32) (x2 : Vec Ideal S3x4 .f32) (x3 : Vec Ideal S1x256x5120 .fp8e4m3) (x4 : Vec Ideal S1x1x256 .f32) (x5 : Vec Ideal S1x32x256 .fp8e4m3) (x6 : Vec Ideal S1x1x256 .f32) (x7 : Vec Ideal S1x32x5120 .fp8e4m3) (x8 : Vec Ideal S1x1x5120 .f32) (x9 : Vec Ideal S1x4x256x128 .bf16) (x10 : Vec Ideal S1x512x5120 .bf16) (x11 : Vec Ideal S1x1x256 .f32)
    (x12 x13 x14 : Vec Ideal S3x1x6912 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (VecWindow.put x12 (k0_off10 i) ![1, 1, 256] (k0_pay54 (F := Ideal) (blkAcc i x0 x1 x2 x3 x4 x5 x6 x7 x8 x9 x10))) ∗ owns (c : Thread nD τ) arg15 fullShare (VecWindow.put x13 (k0_off10 i) ![1, 1, 256] (k0_pay5 (F := Ideal) (blkE i x0 x1 x2 x3 x4 x5 x6 x7 x8 x9 x10 x11))) ∗ owns (c : Thread nD τ) arg16 fullShare (VecWindow.put x14 (k0_off10 i) ![1, 1, 256] (k0_pay66 (F := Ideal) (blkAmax i x0 x1 x2 x3 x4 x5 x6 x7 x8 x9 x10 x11))) ∗ owns (c : Thread nD τ) arg17 fullShare (blkC i x0 x1 x2 x3 x4 x5 x6 x7 x8 x9 x10 x11) ∗ owns (c : Thread nD τ) arg18 fullShare (blkT i x0 x1 x2 x3 x4 x5 x6 x7 x8 x9 x10 x11) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := Ideal)) Variants.none c none) E (cc0_merge i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    intro E K
    simp only [cc0_merge_eq_skeleton]; unfold cc0_merge_skel
    simp only [k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    obtain rfl := harg14.eq_unread hf12; obtain rfl := harg15.eq_unread hf13; obtain rfl := harg16.eq_unread hf14
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HL0]
    · iexists _; isplitr; · ipureintro; exact harg5.read_unread _
      iexact HL0
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HL1]
    · iexists _; isplitr; · ipureintro; exact harg9.read_unread _
      iexact HL1
    isplitl [HL2]
    · iexists _; isplitr; · ipureintro; exact harg10.read_unread _
      iexact HL2
    isplitl [H9]
    · iexists _; isplitr; · ipureintro; exact harg11.read_unread _
      iexact H9
    isplitl [HL10]
    · iexists _; isplitr; · ipureintro; exact harg12.read_unread _
      iexact HL10
    isplitl [H11]
    · iexists _; isplitr; · ipureintro; exact harg13.read_unread _
      iexact H11
    isplitl [H12]
    · iexists _; isplitr; swap; · iexact H12
      ipureintro
      sl_unfold_words
      set_option backward.isDefEq.respectTransparency.types false in
      simp only [Memref.IsWhole.read_unread, rdT, ldA, ldB, ldC, stA, stB, View.readCov_full, View.readAt_writes_full]
      refine (View.read_writes_cons_put _ _ (s := S3x1x6912) (off' := k0_off10 i) _ _ _ rfl).trans ?_
      simp only [View.writes_nil, Memref.IsWhole.read_unread]
      rw [rdBlk]
      rfl
    isplitl [H13]
    · iexists _; isplitr; swap; · iexact H13
      ipureintro
      sl_unfold_words
      set_option backward.isDefEq.respectTransparency.types false in
      simp only [Memref.IsWhole.read_unread, rdT, ldA, ldB, ldC, stA, stB, View.readCov_full, View.readAt_writes_full]
      refine (View.read_writes_cons_put _ _ (s := S3x1x6912) (off' := k0_off10 i) _ _ _ rfl).trans ?_
      simp only [View.writes_nil, Memref.IsWhole.read_unread]
      rw [rdBlk]
      rfl
    isplitl [H14]
    · iexists _; isplitr; swap; · iexact H14
      ipureintro
      sl_unfold_words
      set_option backward.isDefEq.respectTransparency.types false in
      simp only [Memref.IsWhole.read_unread, rdT, ldA, ldB, ldC, stA, stB, View.readCov_full, View.readAt_writes_full]
      refine (View.read_writes_cons_put _ _ (s := S3x1x6912) (off' := k0_off10 i) _ _ _ rfl).trans ?_
      simp only [View.writes_nil, Memref.IsWhole.read_unread]
      rw [rdBlk]
      rfl
    isplitl [HL18]
    · iexists _; isplitr; swap; · iexact HL18
      ipureintro
      sl_unfold_words
      set_option backward.isDefEq.respectTransparency.types false in
      simp only [Memref.IsWhole.read_unread, rdT, ldA, ldB, ldC, stA, stB, View.readCov_full, View.readAt_writes_full]
      rw [rdBlk]
      rfl
    isplitl [HL19]
    · iexists _; isplitr; swap; · iexact HL19
      ipureintro
      sl_unfold_words
      set_option backward.isDefEq.respectTransparency.types false in
      simp only [Memref.IsWhole.read_unread, rdT, ldA, ldB, ldC, stA, stB, View.readCov_full, View.readAt_writes_full]
      rw [rdBlk]
      rfl
    isplitl [H17]
    · iexists _, _; isplitr; swap; · iexact H17
      ipureintro; rfl
    isplitl [HL11]
    · iexists _, _; isplitr; swap; · iexact HL11
      ipureintro; rfl
    isplitl [HL5]
    · iexists _, _; isplitr; swap; · iexact HL5
      ipureintro; rfl
    isplitl [HL15]
    · iexists _, _; isplitr; swap; · iexact HL15
      ipureintro; rfl
    isplitl [HL16]
    · iexists _, _; isplitr; swap; · iexact HL16
      ipureintro; rfl
    isplitl [HL17]
    · iexists _, _; isplitr; swap; · iexact HL17
      ipureintro; rfl
    isplitl [HL20]
    · iexists _, _; isplitr; swap; · iexact HL20
      ipureintro; rfl
    iexists _, _; isplitr; swap; · iexact HL14
    ipureintro; rfl

end Cert.KernelIdeal.Gen

end
-- ==== Proof.IBlkB.lean ====
/- What one grid point of the merge computes, read row by row: each of its results is the row's value of the same name. -/
module

public import proofs.«01_k».proof.Proof.IShared
public import proofs.«01_k».proof.Proof.IBlkA
public import Idealize.ShloMosaic.Lib.Pointwise
public import Idealize.ShloMosaic.Lib.VecWindow

@[expose] public section
set_option maxRecDepth 16384
set_option maxHeartbeats 4000000
noncomputable section
namespace Cert.KernelIdeal.Gen
open Idealize.ShloMosaic Idealize.ShloMosaic.TcCoe Idealize.ShloMosaic.Tactic

open Cert.Merge

theorem pay48_at (x : Vec Ideal S1x32x256 .fp8e4m3) (r : Fin 256) (j : Fin 32) : k0_pay48 (F := Ideal) x (ix2 r j) = x (ix3 0 j r) := by
  unfold k0_pay48
  pointwise

theorem pay49_at (x : Vec Ideal S1x1x256 .f32) (r : Fin 256) (l : Fin 128) : k0_pay49 (F := Ideal) x (ix2 r l) = x (ix3 0 0 r) := by
  unfold k0_pay49
  pointwise

theorem pay50_at (x : Vec Ideal S1x1x256 .f32) (r : Fin 256) (l : Fin 128) : k0_pay50 (F := Ideal) x (ix2 r l) = x (ix3 0 0 r) := by
  unfold k0_pay50
  pointwise

theorem pay56_at (x : Vec Ideal S1x1x256 .f32) (r : Fin 256) (l : Fin 128) : k0_pay56 (F := Ideal) x (ix2 r l) = x (ix3 0 0 r) := by
  unfold k0_pay56
  pointwise

theorem pay51_at (r : Fin 256) (l : Fin 128) : k0_pay51 (F := Ideal) (ix2 r l) = 0 := by
  unfold k0_pay51
  pointwise

theorem pay58_at (r : Fin 256) (l : Fin 128) : k0_pay58 (F := Ideal) (ix2 r l) = 0 := by
  unfold k0_pay58
  pointwise

theorem pay4_at (r : Fin 256) (l : Fin 128) : k0_pay4 (F := Ideal) (ix2 r l) = 0 := by
  unfold k0_pay4
  pointwise

theorem pay53_at (A : Vec Ideal S256x128 .f32) (r : Fin 256) (l : Fin 128) : k0_pay53 (F := Ideal) A (ix2 r l) = Ideal.sqrt (∑ k : Fin 128, A (ix2 r k)) := by
  unfold k0_pay53
  pointwise

theorem first_lane (X : Vec Ideal S256x128 .f32) (r : Fin 256) :
    shapeCast S1x1x256 (extractStridedSlice S1x256 ![0, 0] (transpose S128x256 [1, 0] X transposes_S256x128_p1_0_S128x256) slices_S128x256_o0_0_S1x256) shapeCasts_S1x256_S1x1x256 (ix3 0 0 r)
      = X (ix2 r 0) := by
  pointwise

theorem pay54_at (A : Vec Ideal S256x128 .f32) (r : Fin 256) : k0_pay54 (F := Ideal) A (ix3 0 0 r) = Ideal.sqrt (∑ k : Fin 128, A (ix2 r k)) := by
  unfold k0_pay54
  exact (first_lane _ r).trans (pay53_at A r 0)

theorem one_where_zero (X : Vec Ideal S256x128 .f32) (r : Fin 256) (l : Fin 128) :
    select (cmpf .oeq X (broadcast S256x128 (Scalar.ofBits (F := Ideal) .f32 0x00000000#32))) (broadcast S256x128 (Scalar.ofBits (F := Ideal) .f32 0x3F800000#32)) X (ix2 r l)
      = if X (ix2 r l) = 0 then 1 else X (ix2 r l) := by
  show Scalar.select (FloatOps.cmpf (F := Ideal) (φ := .f32) .oeq (X (ix2 r l)) (Ideal.ofBits .f32 0x00000000#32)) (Ideal.ofBits .f32 0x3F800000#32) (X (ix2 r l)) = _
  rw [select_zero, Ideal.ofBits_one_f32]

theorem pay55_at (A : Vec Ideal S256x128 .f32) (r : Fin 256) (l : Fin 128) :
    k0_pay55 (F := Ideal) A (ix2 r l) = if Ideal.sqrt (∑ k : Fin 128, A (ix2 r k)) = 0 then 1 else Ideal.sqrt (∑ k : Fin 128, A (ix2 r k)) := by
  unfold k0_pay55
  refine (one_where_zero _ r l).trans ?_
  rw [pay53_at]

theorem pay57_at (n m : Vec Ideal S256x128 .f32) (r : Fin 256) (l : Fin 128) : k0_pay57 (F := Ideal) n m (ix2 r l) = Ideal.div (m (ix2 r l)) (n (ix2 r l)) := by
  unfold k0_pay57
  pointwise

theorem pay3_at (s : Vec Ideal S256x128 .f32) (r : Fin 256) (l : Fin 128) : k0_pay3 (F := Ideal) s (ix2 r l) = Ideal.div 1 (s (ix2 r l)) := by
  unfold k0_pay3
  pointwise

theorem pay2_at (s : Vec Ideal S256x128 .f32) (r : Fin 256) (l : Fin 128) : k0_pay2 (F := Ideal) s (ix2 r l) = s (ix2 r l) := by
  unfold k0_pay2
  pointwise

theorem pay5_at (A : Vec Ideal S256x128 .f32) (r : Fin 256) : k0_pay5 (F := Ideal) A (ix3 0 0 r) = ∑ k : Fin 128, A (ix2 r k) := by
  unfold k0_pay5
  pointwise

theorem lane_max (A : FVec Ideal S256x128 .f32) (hφ hacc) (r : Fin 256) :
    multiReduction (F := Ideal) .maximumf [1] S256 A 0xFF800000#32 reduces_S256x128_S256 hφ hacc (ix1 r) = Finset.univ.sup fun k : Fin 128 => A (ix2 r k) := by
  refine (Ideal.multiReduction_maximumf_single _ _ _ _ _ _).trans ?_
  show Finset.univ.fold max (Ideal.ofBits .f32 0xFF800000#32) _ = _
  rw [litBot]
  show Finset.univ.sup _ = _
  refine Finset.sup_congr rfl fun k _ => ?_
  have hk : reduces_S256x128_S256.lift (ix1 r) k = ix2 r k := by
    funext a; fin_cases a <;> rfl
  exact congrArg A hk

theorem spread (M : FVec Ideal S256 .f32) (r : Fin 256) (l : Fin 128) :
    broadcastTo S256x128 (shapeCast S256x1 (shapeCast S256x1 M shapeCasts_S256_S256x1) shapeCasts_S256x1_S256x1) broadcasts_S256x1_S256x128 (ix2 r l) = M (ix1 r) := by
  pointwise

theorem pay64_at (A : Vec Ideal S256x128 .f32) (r : Fin 256) (l : Fin 128) : k0_pay64 (F := Ideal) A (ix2 r l) = Finset.univ.sup fun k : Fin 128 => A (ix2 r k) := by
  unfold k0_pay64
  exact (spread _ r l).trans (lane_max A _ _ r)

theorem scale_at (M : FVec Ideal S256x128 .f32) (r : Fin 256) (l : Fin 128) :
    select (cmpf .oeq M (broadcast S256x128 (Scalar.ofBits (F := Ideal) .f32 0x00000000#32))) (broadcast S256x128 (Scalar.ofBits (F := Ideal) .f32 0x3F800000#32))
      (divf M (broadcast S256x128 (Scalar.ofBits (F := Ideal) .f32 0x43E00000#32))) (ix2 r l)
      = if M (ix2 r l) = 0 then 1 else Ideal.div (M (ix2 r l)) 448 := by
  show Scalar.select (FloatOps.cmpf (F := Ideal) (φ := .f32) .oeq (M (ix2 r l)) (Ideal.ofBits .f32 0x00000000#32)) (Ideal.ofBits .f32 0x3F800000#32)
    (Ideal.div (M (ix2 r l)) (Ideal.ofBits .f32 0x43E00000#32)) = _
  rw [select_zero, lit448, Ideal.ofBits_one_f32]

theorem pay65_at (A : Vec Ideal S256x128 .f32) (r : Fin 256) (l : Fin 128) :
    k0_pay65 (F := Ideal) A (ix2 r l)
      = if (Finset.univ.sup fun k : Fin 128 => A (ix2 r k)) = 0 then 1 else Ideal.div (Finset.univ.sup fun k : Fin 128 => A (ix2 r k)) 448 := by
  unfold k0_pay65
  refine (scale_at _ r l).trans ?_
  rw [pay64_at]

theorem pay66_at (A : Vec Ideal S256x128 .f32) (r : Fin 256) : k0_pay66 (F := Ideal) A (ix3 0 0 r) = k0_pay65 (F := Ideal) A (ix2 r 0) := by
  unfold k0_pay66
  exact first_lane _ r

variable (i : grid0.Coords) (x0 : Vec Ideal S3x4 .i32) (x1 x2 : Vec Ideal S3x4 .f32) (x3 : Vec Ideal S1x256x5120 .fp8e4m3) (x4 : Vec Ideal S1x1x256 .f32)
  (x5 : Vec Ideal S1x32x256 .fp8e4m3) (x6 : Vec Ideal S1x1x256 .f32) (x7 : Vec Ideal S1x32x5120 .fp8e4m3) (x8 : Vec Ideal S1x1x5120 .f32)
  (x9 : Vec Ideal S1x4x256x128 .bf16) (x10 : Vec Ideal S1x512x5120 .bf16) (x11 : Vec Ideal S1x1x256 .f32)

/-- One row of a grid point's block. -/
def blkRow (r : Fin 256) : Row where
  wc k := x3 (ix3 0 r k)
  ws := x4 (ix3 0 0 r)
  l1 j := x5 (ix3 0 j r)
  l1s := x6 (ix3 0 0 r)
  l2 j k := x7 (ix3 0 j k)
  l2s k := x8 (ix3 0 0 k)
  be q := blkBe i x0 x1 x2 x9 (ix2 r q)
  la q k := x10 (ix3 0 q k)
  m := x11 (ix3 0 0 r)

theorem blkV_at (r : Fin 256) (c : Fin 5120) : blkV i x0 x1 x2 x3 x4 x5 x6 x7 x8 x9 x10 r c = (blkRow i x0 x1 x2 x3 x4 x5 x6 x7 x8 x9 x10 x11 r).v c := by
  unfold blkV loop1V Row.v
  simp only [pay48_at, pay49_at, pay50_at]
  rfl

theorem blkAcc_at (r : Fin 256) : (∑ l : Fin 128, blkAcc i x0 x1 x2 x3 x4 x5 x6 x7 x8 x9 x10 (ix2 r l)) = ∑ k, (blkRow i x0 x1 x2 x3 x4 x5 x6 x7 x8 x9 x10 x11 r).v k * (blkRow i x0 x1 x2 x3 x4 x5 x6 x7 x8 x9 x10 x11 r).v k := by
  refine Eq.trans ?_ (sum_slots fun k => (blkRow i x0 x1 x2 x3 x4 x5 x6 x7 x8 x9 x10 x11 r).v k * (blkRow i x0 x1 x2 x3 x4 x5 x6 x7 x8 x9 x10 x11 r).v k)
  refine Finset.sum_congr rfl fun l _ => ?_
  show k0_pay51 (F := Ideal) (ix2 r l) + _ = _
  rw [pay51_at, zero_add]
  refine Finset.sum_congr rfl fun j _ => ?_
  show blkV i x0 x1 x2 x3 x4 x5 x6 x7 x8 x9 x10 r (colN j l) * blkV i x0 x1 x2 x3 x4 x5 x6 x7 x8 x9 x10 r (colN j l) = _
  rw [blkV_at i x0 x1 x2 x3 x4 x5 x6 x7 x8 x9 x10 x11]
  rfl

theorem norm_at (r : Fin 256) : k0_pay54 (F := Ideal) (blkAcc i x0 x1 x2 x3 x4 x5 x6 x7 x8 x9 x10) (ix3 0 0 r) = (blkRow i x0 x1 x2 x3 x4 x5 x6 x7 x8 x9 x10 x11 r).norm := by
  rw [pay54_at, blkAcc_at i x0 x1 x2 x3 x4 x5 x6 x7 x8 x9 x10 x11]
  rfl

theorem blkM_at (r : Fin 256) (l : Fin 128) : blkM i x0 x1 x2 x3 x4 x5 x6 x7 x8 x9 x10 x11 (ix2 r l) = Ideal.div (blkRow i x0 x1 x2 x3 x4 x5 x6 x7 x8 x9 x10 x11 r).m (blkRow i x0 x1 x2 x3 x4 x5 x6 x7 x8 x9 x10 x11 r).nd := by
  unfold blkM
  rw [pay57_at, pay55_at, pay56_at, blkAcc_at i x0 x1 x2 x3 x4 x5 x6 x7 x8 x9 x10 x11]
  rfl

theorem blkW_at (r : Fin 256) (c : Fin 5120) : blkW i x0 x1 x2 x3 x4 x5 x6 x7 x8 x9 x10 x11 r c = (blkRow i x0 x1 x2 x3 x4 x5 x6 x7 x8 x9 x10 x11 r).w c := by
  unfold blkW loop2W Row.w
  rw [blkM_at]
  show blkV i x0 x1 x2 x3 x4 x5 x6 x7 x8 x9 x10 r c * _ + _ = _
  rw [blkV_at i x0 x1 x2 x3 x4 x5 x6 x7 x8 x9 x10 x11]
  rfl

theorem blkAmax_at (r : Fin 256) : (Finset.univ.sup fun l : Fin 128 => blkAmax i x0 x1 x2 x3 x4 x5 x6 x7 x8 x9 x10 x11 (ix2 r l)) = (blkRow i x0 x1 x2 x3 x4 x5 x6 x7 x8 x9 x10 x11 r).amax := by
  unfold Row.amax
  refine Eq.trans ?_ (sup_slots fun k => (blkRow i x0 x1 x2 x3 x4 x5 x6 x7 x8 x9 x10 x11 r).w k)
  refine Finset.sup_congr rfl fun l _ => ?_
  show max (k0_pay58 (F := Ideal) (ix2 r l)) _ = _
  rw [pay58_at]
  refine congrArg (max 0) (Finset.sup_congr rfl fun j _ => ?_)
  show mag (blkW i x0 x1 x2 x3 x4 x5 x6 x7 x8 x9 x10 x11 r (colN j l)) = _
  rw [blkW_at]
  rfl

theorem scale65 (r : Fin 256) (l : Fin 128) : k0_pay65 (F := Ideal) (blkAmax i x0 x1 x2 x3 x4 x5 x6 x7 x8 x9 x10 x11) (ix2 r l) = (blkRow i x0 x1 x2 x3 x4 x5 x6 x7 x8 x9 x10 x11 r).s8 := by
  rw [pay65_at, blkAmax_at]
  rfl

theorem s8_at (r : Fin 256) : k0_pay66 (F := Ideal) (blkAmax i x0 x1 x2 x3 x4 x5 x6 x7 x8 x9 x10 x11) (ix3 0 0 r) = (blkRow i x0 x1 x2 x3 x4 x5 x6 x7 x8 x9 x10 x11 r).s8 := by
  rw [pay66_at, scale65]

theorem code_at (r : Fin 256) (c : Fin 5120) :
    loop3C (fun y => blkW i x0 x1 x2 x3 x4 x5 x6 x7 x8 x9 x10 x11 (y 0) (y 1)) (k0_pay3 (F := Ideal) (k0_pay65 (F := Ideal) (blkAmax i x0 x1 x2 x3 x4 x5 x6 x7 x8 x9 x10 x11))) r c = (blkRow i x0 x1 x2 x3 x4 x5 x6 x7 x8 x9 x10 x11 r).c8 c := by
  unfold loop3C
  rw [pay3_at, scale65, lit448, litNeg448]
  show min 448 (max (-448) (blkW i x0 x1 x2 x3 x4 x5 x6 x7 x8 x9 x10 x11 r c * _)) = _
  rw [blkW_at, mul_recip _ _ (Row.s8_ne_zero _)]
  rfl

theorem blkC_at (r : Fin 256) (c : Fin 5120) : blkC i x0 x1 x2 x3 x4 x5 x6 x7 x8 x9 x10 x11 (ix3 0 r c) = (blkRow i x0 x1 x2 x3 x4 x5 x6 x7 x8 x9 x10 x11 r).c8 c := by
  exact code_at i x0 x1 x2 x3 x4 x5 x6 x7 x8 x9 x10 x11 r c

theorem blkT_at (r : Fin 256) (c : Fin 5120) : blkT i x0 x1 x2 x3 x4 x5 x6 x7 x8 x9 x10 x11 (ix3 0 c r) = (blkRow i x0 x1 x2 x3 x4 x5 x6 x7 x8 x9 x10 x11 r).w c := by
  exact blkW_at i x0 x1 x2 x3 x4 x5 x6 x7 x8 x9 x10 x11 r c

theorem blkD_at (r : Fin 256) (c : Fin 5120) : blkD i x0 x1 x2 x3 x4 x5 x6 x7 x8 x9 x10 x11 r c = (blkRow i x0 x1 x2 x3 x4 x5 x6 x7 x8 x9 x10 x11 r).w c - (blkRow i x0 x1 x2 x3 x4 x5 x6 x7 x8 x9 x10 x11 r).c8 c * (blkRow i x0 x1 x2 x3 x4 x5 x6 x7 x8 x9 x10 x11 r).s8 := by
  unfold blkD loop3D
  rw [code_at, pay2_at, scale65]
  show blkW i x0 x1 x2 x3 x4 x5 x6 x7 x8 x9 x10 x11 r c - _ = _
  rw [blkW_at]

theorem err_at (r : Fin 256) : k0_pay5 (F := Ideal) (blkE i x0 x1 x2 x3 x4 x5 x6 x7 x8 x9 x10 x11) (ix3 0 0 r) = (blkRow i x0 x1 x2 x3 x4 x5 x6 x7 x8 x9 x10 x11 r).err := by
  rw [pay5_at]
  unfold Row.err
  refine Eq.trans ?_ (sum_slots fun k => ((blkRow i x0 x1 x2 x3 x4 x5 x6 x7 x8 x9 x10 x11 r).w k - (blkRow i x0 x1 x2 x3 x4 x5 x6 x7 x8 x9 x10 x11 r).c8 k * (blkRow i x0 x1 x2 x3 x4 x5 x6 x7 x8 x9 x10 x11 r).s8) * ((blkRow i x0 x1 x2 x3 x4 x5 x6 x7 x8 x9 x10 x11 r).w k - (blkRow i x0 x1 x2 x3 x4 x5 x6 x7 x8 x9 x10 x11 r).c8 k * (blkRow i x0 x1 x2 x3 x4 x5 x6 x7 x8 x9 x10 x11 r).s8))
  refine Finset.sum_congr rfl fun l _ => ?_
  show k0_pay4 (F := Ideal) (ix2 r l) + _ = _
  rw [pay4_at, zero_add]
  refine Finset.sum_congr rfl fun j _ => ?_
  show blkD i x0 x1 x2 x3 x4 x5 x6 x7 x8 x9 x10 x11 r (colN j l) * blkD i x0 x1 x2 x3 x4 x5 x6 x7 x8 x9 x10 x11 r (colN j l) = _
  rw [blkD_at]
  rfl

end Cert.KernelIdeal.Gen
end
-- ==== Proof.Ref.lean ====
/- The reference, read at an index: each of its results at a row is the row's function of that row's inputs. -/
module

public import proofs.«01_k».proof.Proof.Gen.ReferenceIdeal.Value
public import proofs.«01_k».proof.Proof.Lits
public import Idealize.ShloMosaic.Lib.Pointwise
public import Idealize.ShloMosaic.Lib.ValueIdx
public import Idealize.ShloMosaic.Lib.VecWindow

@[expose] public section

set_option maxRecDepth 16384
set_option maxHeartbeats 4000000

noncomputable section

namespace Cert.Merge

open Idealize.ShloMosaic

/-- The row `r` of projection `b`, of the arrays. -/
def rowOf (a0 : Vec Ideal ⟨3, ![3, 6912, 5120]⟩ .fp8e4m3) (a1 : Vec Ideal ⟨2, ![3, 6912]⟩ .f32) (a2 : Vec Ideal ⟨3, ![3, 6912, 32]⟩ .fp8e4m3)
    (a3 : Vec Ideal ⟨2, ![3, 6912]⟩ .f32) (a4 : Vec Ideal ⟨3, ![3, 32, 5120]⟩ .fp8e4m3) (a5 : Vec Ideal ⟨2, ![3, 5120]⟩ .f32)
    (a6 : Vec Ideal ⟨4, ![3, 4, 6912, 128]⟩ .bf16) (a7 : Vec Ideal ⟨4, ![3, 4, 128, 5120]⟩ .bf16) (a8 : Vec Ideal ⟨2, ![3, 4]⟩ .i32)
    (a9 : Vec Ideal ⟨2, ![3, 4]⟩ .f32) (a10 : Vec Ideal ⟨2, ![3, 4]⟩ .f32) (a11 : Vec Ideal ⟨2, ![3, 6912]⟩ .f32) (b : Fin 3) (r : Fin 6912) : Row where
  wc k := a0 (ix3 b r k)
  ws := a1 (ix2 b r)
  l1 j := a2 (ix3 b r j)
  l1s := a3 (ix2 b r)
  l2 j k := a4 (ix3 b j k)
  l2s k := a5 (ix2 b k)
  be q := cell (a6 (ix4 b ⟨q.val / 128, by have := q.isLt; omega⟩ r ⟨q.val % 128, by omega⟩)) (a10 (ix2 b ⟨q.val / 128, by have := q.isLt; omega⟩))
    (a9 (ix2 b ⟨q.val / 128, by have := q.isLt; omega⟩)) (a8 (ix2 b ⟨q.val / 128, by have := q.isLt; omega⟩)) (q.val % 128)
  la q k := a7 (ix4 b ⟨q.val / 128, by have := q.isLt; omega⟩ ⟨q.val % 128, by omega⟩ k)
  m := a11 (ix2 b r)

end Cert.Merge

namespace Cert.ReferenceIdeal.Gen

open Cert.ReferenceIdeal
open Idealize.ShloMosaic Idealize.ShloMosaic.TcCoe Idealize.ShloMosaic.Tactic
open Cert.Merge

variable (x0 : Vec Ideal S3x6912x5120 .fp8e4m3) (x1 : Vec Ideal S3x6912 .f32) (x2 : Vec Ideal S3x6912x32 .fp8e4m3) (x3 : Vec Ideal S3x6912 .f32) (x4 : Vec Ideal S3x32x5120 .fp8e4m3) (x5 : Vec Ideal S3x5120 .f32) (x6 : Vec Ideal S3x4x6912x128 .bf16) (x7 : Vec Ideal S3x4x128x5120 .bf16) (x8 : Vec Ideal S3x4 .i32) (x9 : Vec Ideal S3x4 .f32) (x10 : Vec Ideal S3x4 .f32) (x11 : Vec Ideal S3x6912 .f32)

theorem be_eq (b : Fin 3) (r : Fin 6912) (q : Fin 512) :
    k0_pay10 (F := Ideal) (k0_pay7 x8) (k0_pay8 x8 x10 x9 x6) k0_pay9 (ix3 b r q) = (rowOf x0 x1 x2 x3 x4 x5 x6 x7 x8 x9 x10 x11 b r).be q := by
  unfold k0_pay10 k0_pay7 k0_pay8 k0_pay9
  pointwise
  refine (select_slt _ _ _ _).trans ?_
  rfl

theorem la_eq (b : Fin 3) (r : Fin 6912) (q : Fin 512) (k : Fin 5120) :
    k0_pay11 (F := Ideal) x7 (ix3 b q k) = (rowOf x0 x1 x2 x3 x4 x5 x6 x7 x8 x9 x10 x11 b r).la q k := by
  unfold k0_pay11
  pointwise
  rfl

theorem v_eq (b : Fin 3) (r : Fin 6912) (k : Fin 5120) :
    k0_pay12 (F := Ideal) (k0_pay5 x0 x1) (k0_pay6 x2 x4 x3 x5) (k0_pay7 x8) (k0_pay8 x8 x10 x9 x6) k0_pay9 x7 (ix3 b r k) = (rowOf x0 x1 x2 x3 x4 x5 x6 x7 x8 x9 x10 x11 b r).v k := by
  have h5 : k0_pay5 (F := Ideal) x0 x1 (ix3 b r k) = x0 (ix3 b r k) * x1 (ix2 b r) := by unfold k0_pay5; pointwise
  have h6 : k0_pay6 (F := Ideal) x2 x4 x3 x5 (ix3 b r k) = (∑ j : Fin 32, x2 (ix3 b r j) * x4 (ix3 b j k)) * x3 (ix2 b r) * x5 (ix2 b k) := by
    unfold k0_pay6; pointwise
  unfold k0_pay12
  generalize k0_pay5 (F := Ideal) x0 x1 = p5 at h5 ⊢
  generalize k0_pay6 (F := Ideal) x2 x4 x3 x5 = p6 at h6 ⊢
  pointwise
  rw [h5, h6]
  unfold Row.v
  refine congrArg₂ (· + ·) rfl (Finset.sum_congr rfl fun q _ => ?_)
  exact congrArg₂ (· * ·) (be_eq x0 x1 x2 x3 x4 x5 x6 x7 x8 x9 x10 x11 b r (q.castLE (by decide))) (la_eq x0 x1 x2 x3 x4 x5 x6 x7 x8 x9 x10 x11 b r (q.castLE (by decide)) k)

theorem norm_eq (b : Fin 3) (r : Fin 6912) :
    k0_pay13 (F := Ideal) (k0_pay5 x0 x1) (k0_pay6 x2 x4 x3 x5) (k0_pay7 x8) (k0_pay8 x8 x10 x9 x6) k0_pay9 x7 (ix2 b r) = (rowOf x0 x1 x2 x3 x4 x5 x6 x7 x8 x9 x10 x11 b r).norm := by
  have h := fun k => v_eq x0 x1 x2 x3 x4 x5 x6 x7 x8 x9 x10 x11 b r k
  unfold k0_pay13
  generalize k0_pay12 (F := Ideal) (k0_pay5 x0 x1) (k0_pay6 x2 x4 x3 x5) (k0_pay7 x8) (k0_pay8 x8 x10 x9 x6) k0_pay9 x7 = V at h ⊢
  pointwise
  unfold Row.norm
  exact congrArg Ideal.sqrt (Finset.sum_congr rfl fun k _ => congrArg₂ (· * ·) (h k) (h k))

theorem w_eq (b : Fin 3) (r : Fin 6912) (k : Fin 5120) :
    k0_pay14 (F := Ideal) (k0_pay5 x0 x1) (k0_pay6 x2 x4 x3 x5) (k0_pay7 x8) (k0_pay8 x8 x10 x9 x6) k0_pay9 x7 x11 (ix3 b r k) = (rowOf x0 x1 x2 x3 x4 x5 x6 x7 x8 x9 x10 x11 b r).w k := by
  have h := v_eq x0 x1 x2 x3 x4 x5 x6 x7 x8 x9 x10 x11 b r k
  have hn := norm_eq x0 x1 x2 x3 x4 x5 x6 x7 x8 x9 x10 x11 b r
  unfold k0_pay14
  generalize k0_pay12 (F := Ideal) (k0_pay5 x0 x1) (k0_pay6 x2 x4 x3 x5) (k0_pay7 x8) (k0_pay8 x8 x10 x9 x6) k0_pay9 x7 = V at h ⊢
  generalize k0_pay13 (F := Ideal) (k0_pay5 x0 x1) (k0_pay6 x2 x4 x3 x5) (k0_pay7 x8) (k0_pay8 x8 x10 x9 x6) k0_pay9 x7 = N at hn ⊢
  pointwise
  unfold Row.w Row.nd Row.rest
  rw [h, hn]
  refine congrArg₂ (· + ·) rfl (Finset.sum_congr rfl fun q _ => ?_)
  exact congrArg₂ (· * ·) (be_eq x0 x1 x2 x3 x4 x5 x6 x7 x8 x9 x10 x11 b r (q.natAdd 128)) (la_eq x0 x1 x2 x3 x4 x5 x6 x7 x8 x9 x10 x11 b r (q.natAdd 128) k)

/-- The largest magnitude along a row. -/
theorem max_row (W : FVec Ideal S3x6912x5120 .f32) (hφ hacc) (b : Fin 3) (r : Fin 6912) :
    multiReduction (F := Ideal) .maximumf [2] S3x6912 (absf W) 0xFF800000#32 reduces_S3x6912x5120_S3x6912 hφ hacc (ix2 b r)
      = Finset.univ.sup fun k : Fin 5120 => max (W (ix3 b r k)) (-W (ix3 b r k)) := by
  refine (Ideal.multiReduction_maximumf_single _ _ _ _ _ _).trans ?_
  show Finset.univ.fold max (Ideal.ofBits .f32 0xFF800000#32) _ = _
  rw [litBot]
  show Finset.univ.sup _ = _
  refine Finset.sup_congr rfl fun k _ => ?_
  have hk : reduces_S3x6912x5120_S3x6912.lift (ix2 b r) k = ix3 b r k := by
    funext a; fin_cases a <;> rfl
  show max (W _) (-W _) = _
  rw [hk]
  rfl

/-- The scale of a row's maximum. -/
theorem scale_of (M : FVec Ideal S3x6912 .f32) (b : Fin 3) (r : Fin 6912) :
    select (cmpf .oeq M (broadcast S3x6912 (Scalar.ofBits (F := Ideal) .f32 0x00000000#32))) (broadcast S3x6912 (Scalar.ofBits (F := Ideal) .f32 0x3F800000#32))
      (divf M (broadcast S3x6912 (Scalar.ofBits (F := Ideal) .f32 0x43E00000#32))) (ix2 b r)
      = if M (ix2 b r) = 0 then 1 else Ideal.div (M (ix2 b r)) 448 := by
  show Scalar.select (FloatOps.cmpf (F := Ideal) (φ := .f32) .oeq (M (ix2 b r)) (Ideal.ofBits .f32 0x00000000#32)) (Ideal.ofBits .f32 0x3F800000#32)
    (Ideal.div (M (ix2 b r)) (Ideal.ofBits .f32 0x43E00000#32)) = _
  rw [select_zero, lit448, Ideal.ofBits_one_f32]

theorem s8_eq (b : Fin 3) (r : Fin 6912) :
    k0_pay15 (F := Ideal) (k0_pay5 x0 x1) (k0_pay6 x2 x4 x3 x5) (k0_pay7 x8) (k0_pay8 x8 x10 x9 x6) k0_pay9 x7 x11 (ix2 b r) = (rowOf x0 x1 x2 x3 x4 x5 x6 x7 x8 x9 x10 x11 b r).s8 := by
  unfold k0_pay15
  refine (scale_of _ b r).trans ?_
  have hm := (max_row (k0_pay14 (F := Ideal) (k0_pay5 x0 x1) (k0_pay6 x2 x4 x3 x5) (k0_pay7 x8) (k0_pay8 x8 x10 x9 x6) k0_pay9 x7 x11) (.inl rfl) rfl b r).trans
    (Finset.sup_congr rfl fun k _ => by rw [w_eq x0 x1 x2 x3 x4 x5 x6 x7 x8 x9 x10 x11 b r k])
  unfold Row.s8 Row.amax
  rw [hm]

/-- A code: the quotient clipped. -/
theorem code_of (W : FVec Ideal S3x6912x5120 .f32) (S : FVec Ideal S3x6912 .f32) (b : Fin 3) (r : Fin 6912) (k : Fin 5120) :
    (truncf .fp8e4m3 (minimumf (broadcast S3x6912x5120 (Scalar.ofBits (F := Ideal) .f32 0x43E00000#32))
      (maximumf (broadcast S3x6912x5120 (Scalar.ofBits (F := Ideal) .f32 0xC3E00000#32))
        (divf W (broadcastTo S3x6912x5120 (shapeCast S3x6912x1 S shapeCasts_S3x6912_S3x6912x1) broadcasts_S3x6912x1_S3x6912x5120)))) bitsLt_fp8e4m3_f32 :
      FVec Ideal S3x6912x5120 .fp8e4m3) (ix3 b r k) = min 448 (max (-448) (Ideal.div (W (ix3 b r k)) (S (ix2 b r)))) := by
  have hb : broadcastTo S3x6912x5120 (shapeCast S3x6912x1 S shapeCasts_S3x6912_S3x6912x1) broadcasts_S3x6912x1_S3x6912x5120 (ix3 b r k) = S (ix2 b r) := by
    pointwise
  generalize broadcastTo S3x6912x5120 (shapeCast S3x6912x1 S shapeCasts_S3x6912_S3x6912x1) broadcasts_S3x6912x1_S3x6912x5120 = B at hb ⊢
  show min (Ideal.ofBits .f32 0x43E00000#32) (max (Ideal.ofBits .f32 0xC3E00000#32) (Ideal.div (W (ix3 b r k)) (B (ix3 b r k)))) = _
  rw [lit448, litNeg448, hb]

theorem c8_eq (b : Fin 3) (r : Fin 6912) (k : Fin 5120) :
    k0_pay16 (F := Ideal) (k0_pay5 x0 x1) (k0_pay6 x2 x4 x3 x5) (k0_pay7 x8) (k0_pay8 x8 x10 x9 x6) k0_pay9 x7 x11 (ix3 b r k) = (rowOf x0 x1 x2 x3 x4 x5 x6 x7 x8 x9 x10 x11 b r).c8 k := by
  unfold k0_pay16
  refine (code_of _ _ b r k).trans ?_
  rw [w_eq x0 x1 x2 x3 x4 x5 x6 x7 x8 x9 x10 x11 b r k, s8_eq x0 x1 x2 x3 x4 x5 x6 x7 x8 x9 x10 x11 b r]
  rfl

/-- The sum of squared errors, of the arrays it is computed from. -/
theorem err_of (W : FVec Ideal S3x6912x5120 .f32) (S : FVec Ideal S3x6912 .f32) (C : FVec Ideal S3x6912x5120 .fp8e4m3) (b : Fin 3) (z : Fin 1) (r : Fin 6912) :
    k0_pay2 (F := Ideal) W S C (ix3 b z r) = ∑ k : Fin 5120, (W (ix3 b r k) - C (ix3 b r k) * S (ix2 b r)) * (W (ix3 b r k) - C (ix3 b r k) * S (ix2 b r)) := by
  unfold k0_pay2
  pointwise

theorem err_eq (b : Fin 3) (z : Fin 1) (r : Fin 6912) :
    k0_pay2 (F := Ideal) (k0_pay14 (k0_pay5 x0 x1) (k0_pay6 x2 x4 x3 x5) (k0_pay7 x8) (k0_pay8 x8 x10 x9 x6) k0_pay9 x7 x11) (k0_pay15 (k0_pay5 x0 x1) (k0_pay6 x2 x4 x3 x5) (k0_pay7 x8) (k0_pay8 x8 x10 x9 x6) k0_pay9 x7 x11) (k0_pay16 (k0_pay5 x0 x1) (k0_pay6 x2 x4 x3 x5) (k0_pay7 x8) (k0_pay8 x8 x10 x9 x6) k0_pay9 x7 x11) (ix3 b z r) = (rowOf x0 x1 x2 x3 x4 x5 x6 x7 x8 x9 x10 x11 b r).err := by
  refine (err_of _ _ _ b z r).trans ?_
  unfold Row.err
  exact Finset.sum_congr rfl fun k _ => by rw [w_eq x0 x1 x2 x3 x4 x5 x6 x7 x8 x9 x10 x11 b r k, s8_eq x0 x1 x2 x3 x4 x5 x6 x7 x8 x9 x10 x11 b r, c8_eq x0 x1 x2 x3 x4 x5 x6 x7 x8 x9 x10 x11 b r k]

theorem row_of (N : FVec Ideal S3x6912 .f32) (b : Fin 3) (z : Fin 1) (r : Fin 6912) : k0_pay1 (F := Ideal) N (ix3 b z r) = N (ix2 b r) := by
  unfold k0_pay1; pointwise

theorem row_of' (N : FVec Ideal S3x6912 .f32) (b : Fin 3) (z : Fin 1) (r : Fin 6912) : k0_pay3 (F := Ideal) N (ix3 b z r) = N (ix2 b r) := by
  unfold k0_pay3; pointwise

theorem col_of (N : FVec Ideal S3x6912x5120 .f32) (b : Fin 3) (k : Fin 5120) (r : Fin 6912) : k0_pay4 (F := Ideal) N (ix3 b k r) = N (ix3 b r k) := by
  unfold k0_pay4; pointwise

/-- A load of a whole array is the array. -/
theorem ld_full {s : Shape} {e : EltTy} (x : s.Idx → Elt Ideal e) {off : Fin s.rank → ℕ} (inb : ∀ a, off a + s.size a ≤ s.size a) :
    View.ld (Val := Elt Ideal) x (Rect.unit off s.size inb) = x :=
  funext fun y => congrArg x (Rect.emb_unit_full inb y)

theorem norm_val (b : Fin 3) (z : Fin 1) (r : Fin 6912) : Value.G12 (F := Ideal) x0 x1 x2 x3 x4 x5 x6 x7 x8 x9 x10 x11 (ix3 b z r) = (rowOf x0 x1 x2 x3 x4 x5 x6 x7 x8 x9 x10 x11 b r).norm := by
  unfold Value.G12 k0_pay17 k0_pay18 k0_pay19 k0_pay20 k0_pay21
  simp only [ld_full]
  exact (row_of _ b z r).trans (norm_eq x0 x1 x2 x3 x4 x5 x6 x7 x8 x9 x10 x11 b r)

theorem err_val (b : Fin 3) (z : Fin 1) (r : Fin 6912) : Value.G13 (F := Ideal) x0 x1 x2 x3 x4 x5 x6 x7 x8 x9 x10 x11 (ix3 b z r) = (rowOf x0 x1 x2 x3 x4 x5 x6 x7 x8 x9 x10 x11 b r).err := by
  unfold Value.G13 k0_pay22 k0_pay23 k0_pay24 k0_pay17 k0_pay18 k0_pay19 k0_pay20 k0_pay21
  simp only [ld_full]
  exact err_eq x0 x1 x2 x3 x4 x5 x6 x7 x8 x9 x10 x11 b z r

theorem s8_val (b : Fin 3) (z : Fin 1) (r : Fin 6912) : Value.G14 (F := Ideal) x0 x1 x2 x3 x4 x5 x6 x7 x8 x9 x10 x11 (ix3 b z r) = (rowOf x0 x1 x2 x3 x4 x5 x6 x7 x8 x9 x10 x11 b r).s8 := by
  unfold Value.G14 k0_pay23 k0_pay17 k0_pay18 k0_pay19 k0_pay20 k0_pay21
  simp only [ld_full]
  exact (row_of' _ b z r).trans (s8_eq x0 x1 x2 x3 x4 x5 x6 x7 x8 x9 x10 x11 b r)

theorem c8_val (b : Fin 3) (r : Fin 6912) (k : Fin 5120) : Value.G15 (F := Ideal) x0 x1 x2 x3 x4 x5 x6 x7 x8 x9 x10 x11 (ix3 b r k) = (rowOf x0 x1 x2 x3 x4 x5 x6 x7 x8 x9 x10 x11 b r).c8 k := by
  unfold Value.G15 k0_pay24 k0_pay17 k0_pay18 k0_pay19 k0_pay20 k0_pay21
  simp only [ld_full]
  exact c8_eq x0 x1 x2 x3 x4 x5 x6 x7 x8 x9 x10 x11 b r k

theorem wt_val (b : Fin 3) (k : Fin 5120) (r : Fin 6912) : Value.G16 (F := Ideal) x0 x1 x2 x3 x4 x5 x6 x7 x8 x9 x10 x11 (ix3 b k r) = (rowOf x0 x1 x2 x3 x4 x5 x6 x7 x8 x9 x10 x11 b r).w k := by
  unfold Value.G16 k0_pay22 k0_pay17 k0_pay18 k0_pay19 k0_pay20 k0_pay21
  simp only [ld_full]
  exact (col_of _ b k r).trans (w_eq x0 x1 x2 x3 x4 x5 x6 x7 x8 x9 x10 x11 b r k)

end Cert.ReferenceIdeal.Gen

end
-- ==== Proof.IBlocks.lean ====
/- The blocks a grid point of the merge reads, at coordinates of the argument arrays; a row of the point's blocks is a row
   of the projection it works on. -/
module

public import proofs.«01_k».proof.Proof.IShared
public import proofs.«01_k».proof.Proof.IBlkB
public import proofs.«01_k».proof.Proof.Ref
public import Idealize.ShloMosaic.Lib.Pipeline.ValueKit
public import Idealize.ShloMosaic.Lib.Pointwise
public import Idealize.ShloMosaic.Lib.VecWindow

@[expose] public section
set_option maxRecDepth 16384
set_option maxHeartbeats 4000000
noncomputable section
namespace Cert.KernelIdeal.Gen
open Idealize.ShloMosaic Idealize.ShloMosaic.TcCoe Idealize.ShloMosaic.Tactic

open Cert.Merge
variable (m : (ℓ : Loc nD τ sig) → Buf (Elt Ideal) ℓ)

/-- The row of the projection that a row of a grid point's block is. -/
def rowAt (t : Fin cfg0.N) (r : Fin 256) : Fin 6912 :=
  ⟨(grid0.coords t 1).val * 256 + r.val, by have h : (grid0.coords t 1).val < 27 := (grid0.coords t 1).isLt; have := r.isLt; omega⟩

/-- The projection of a grid point. -/
def projAt (t : Fin cfg0.N) : Fin 3 := projOf (grid0.coords t)

theorem idxOf_0 (t : Fin cfg0.N) : win0_0.index t = ![0, 0] :=
  (by decide +kernel : ∀ t : Fin grid0.N, win0_0.index t = ![0, 0]) t

theorem idxOf_1 (t : Fin cfg0.N) : win0_1.index t = ![0, 0] :=
  (by decide +kernel : ∀ t : Fin grid0.N, win0_1.index t = ![0, 0]) t

theorem idxOf_2 (t : Fin cfg0.N) : win0_2.index t = ![0, 0] :=
  (by decide +kernel : ∀ t : Fin grid0.N, win0_2.index t = ![0, 0]) t

theorem idxOf_3 (t : Fin cfg0.N) : win0_3.index t = ![(grid0.coords t 0).val, (grid0.coords t 1).val, 0] :=
  (by decide +kernel : ∀ t : Fin grid0.N, win0_3.index t = ![(grid0.coords t 0).val, (grid0.coords t 1).val, 0]) t

theorem idxOf_4 (t : Fin cfg0.N) : win0_4.index t = ![(grid0.coords t 0).val, 0, (grid0.coords t 1).val] :=
  (by decide +kernel : ∀ t : Fin grid0.N, win0_4.index t = ![(grid0.coords t 0).val, 0, (grid0.coords t 1).val]) t

theorem idxOf_5 (t : Fin cfg0.N) : win0_5.index t = ![(grid0.coords t 0).val, 0, (grid0.coords t 1).val] :=
  (by decide +kernel : ∀ t : Fin grid0.N, win0_5.index t = ![(grid0.coords t 0).val, 0, (grid0.coords t 1).val]) t

theorem idxOf_6 (t : Fin cfg0.N) : win0_6.index t = ![(grid0.coords t 0).val, 0, (grid0.coords t 1).val] :=
  (by decide +kernel : ∀ t : Fin grid0.N, win0_6.index t = ![(grid0.coords t 0).val, 0, (grid0.coords t 1).val]) t

theorem idxOf_7 (t : Fin cfg0.N) : win0_7.index t = ![(grid0.coords t 0).val, 0, 0] :=
  (by decide +kernel : ∀ t : Fin grid0.N, win0_7.index t = ![(grid0.coords t 0).val, 0, 0]) t

theorem idxOf_8 (t : Fin cfg0.N) : win0_8.index t = ![(grid0.coords t 0).val, 0, 0] :=
  (by decide +kernel : ∀ t : Fin grid0.N, win0_8.index t = ![(grid0.coords t 0).val, 0, 0]) t

theorem idxOf_9 (t : Fin cfg0.N) : win0_9.index t = ![(grid0.coords t 0).val, 0, (grid0.coords t 1).val, 0] :=
  (by decide +kernel : ∀ t : Fin grid0.N, win0_9.index t = ![(grid0.coords t 0).val, 0, (grid0.coords t 1).val, 0]) t

theorem idxOf_10 (t : Fin cfg0.N) : win0_10.index t = ![(grid0.coords t 0).val, 0, 0] :=
  (by decide +kernel : ∀ t : Fin grid0.N, win0_10.index t = ![(grid0.coords t 0).val, 0, 0]) t

theorem idxOf_11 (t : Fin cfg0.N) : win0_11.index t = ![(grid0.coords t 0).val, 0, (grid0.coords t 1).val] :=
  (by decide +kernel : ∀ t : Fin grid0.N, win0_11.index t = ![(grid0.coords t 0).val, 0, (grid0.coords t 1).val]) t

theorem idxOf_15 (t : Fin cfg0.N) : win0_15.index t = ![(grid0.coords t 0).val, (grid0.coords t 1).val, 0] :=
  (by decide +kernel : ∀ t : Fin grid0.N, win0_15.index t = ![(grid0.coords t 0).val, (grid0.coords t 1).val, 0]) t

theorem idxOf_16 (t : Fin cfg0.N) : win0_16.index t = ![(grid0.coords t 0).val, 0, (grid0.coords t 1).val] :=
  (by decide +kernel : ∀ t : Fin grid0.N, win0_16.index t = ![(grid0.coords t 0).val, 0, (grid0.coords t 1).val]) t

theorem blk_0 (c : Dev nD) (t : Fin cfg0.N) (b : Fin 3) (s : Fin 4) :
    (iblk (F := Ideal) m c 0 t : Vec Ideal S3x4 .i32) (ix2 b s) = m ((c.tc : Thread nD τ).loc main_arg8) (ix2 b s) := by
  have h0 : (grid0.coords t 0).val < 3 := (grid0.coords t 0).isLt
  have h1 : (grid0.coords t 1).val < 27 := (grid0.coords t 1).isLt
  blk_ext! [iblk, V, idxOf_0 t]

theorem blk_1 (c : Dev nD) (t : Fin cfg0.N) (b : Fin 3) (s : Fin 4) :
    (iblk (F := Ideal) m c 1 t : Vec Ideal S3x4 .f32) (ix2 b s) = m ((c.tc : Thread nD τ).loc main_arg9) (ix2 b s) := by
  have h0 : (grid0.coords t 0).val < 3 := (grid0.coords t 0).isLt
  have h1 : (grid0.coords t 1).val < 27 := (grid0.coords t 1).isLt
  blk_ext! [iblk, V, idxOf_1 t]

theorem blk_2 (c : Dev nD) (t : Fin cfg0.N) (b : Fin 3) (s : Fin 4) :
    (iblk (F := Ideal) m c 2 t : Vec Ideal S3x4 .f32) (ix2 b s) = m ((c.tc : Thread nD τ).loc main_arg10) (ix2 b s) := by
  have h0 : (grid0.coords t 0).val < 3 := (grid0.coords t 0).isLt
  have h1 : (grid0.coords t 1).val < 27 := (grid0.coords t 1).isLt
  blk_ext! [iblk, V, idxOf_2 t]

theorem blk_3 (c : Dev nD) (t : Fin cfg0.N) (r : Fin 256) (k : Fin 5120) :
    (iblk (F := Ideal) m c 3 t : Vec Ideal S1x256x5120 .fp8e4m3) (ix3 0 r k) = m ((c.tc : Thread nD τ).loc main_arg0) (ix3 (projAt t) (rowAt t r) k) := by
  have h0 : (grid0.coords t 0).val < 3 := (grid0.coords t 0).isLt
  have h1 : (grid0.coords t 1).val < 27 := (grid0.coords t 1).isLt
  unfold projAt projOf rowAt
  blk_ext! [iblk, V, idxOf_3 t]

theorem blk_4 (c : Dev nD) (t : Fin cfg0.N) (r : Fin 256) :
    (iblk (F := Ideal) m c 4 t : Vec Ideal S1x1x256 .f32) (ix3 0 0 r) = m ((c.tc : Thread nD τ).loc main_arg1) (ix2 (projAt t) (rowAt t r)) := by
  have h0 : (grid0.coords t 0).val < 3 := (grid0.coords t 0).isLt
  have h1 : (grid0.coords t 1).val < 27 := (grid0.coords t 1).isLt
  unfold projAt projOf rowAt
  blk_ext! [iblk, V, idxOf_4 t]

theorem blk_5 (c : Dev nD) (t : Fin cfg0.N) (j : Fin 32) (r : Fin 256) :
    (iblk (F := Ideal) m c 5 t : Vec Ideal S1x32x256 .fp8e4m3) (ix3 0 j r) = m ((c.tc : Thread nD τ).loc main_arg2) (ix3 (projAt t) (rowAt t r) j) := by
  have h0 : (grid0.coords t 0).val < 3 := (grid0.coords t 0).isLt
  have h1 : (grid0.coords t 1).val < 27 := (grid0.coords t 1).isLt
  unfold projAt projOf rowAt
  blk_ext! [iblk, V, idxOf_5 t]

theorem blk_6 (c : Dev nD) (t : Fin cfg0.N) (r : Fin 256) :
    (iblk (F := Ideal) m c 6 t : Vec Ideal S1x1x256 .f32) (ix3 0 0 r) = m ((c.tc : Thread nD τ).loc main_arg3) (ix2 (projAt t) (rowAt t r)) := by
  have h0 : (grid0.coords t 0).val < 3 := (grid0.coords t 0).isLt
  have h1 : (grid0.coords t 1).val < 27 := (grid0.coords t 1).isLt
  unfold projAt projOf rowAt
  blk_ext! [iblk, V, idxOf_6 t]

theorem blk_7 (c : Dev nD) (t : Fin cfg0.N) (j : Fin 32) (k : Fin 5120) :
    (iblk (F := Ideal) m c 7 t : Vec Ideal S1x32x5120 .fp8e4m3) (ix3 0 j k) = m ((c.tc : Thread nD τ).loc main_arg4) (ix3 (projAt t) j k) := by
  have h0 : (grid0.coords t 0).val < 3 := (grid0.coords t 0).isLt
  have h1 : (grid0.coords t 1).val < 27 := (grid0.coords t 1).isLt
  unfold projAt projOf
  blk_ext! [iblk, V, idxOf_7 t]

theorem blk_8 (c : Dev nD) (t : Fin cfg0.N) (k : Fin 5120) :
    (iblk (F := Ideal) m c 8 t : Vec Ideal S1x1x5120 .f32) (ix3 0 0 k) = m ((c.tc : Thread nD τ).loc main_arg5) (ix2 (projAt t) k) := by
  have h0 : (grid0.coords t 0).val < 3 := (grid0.coords t 0).isLt
  have h1 : (grid0.coords t 1).val < 27 := (grid0.coords t 1).isLt
  unfold projAt projOf
  blk_ext! [iblk, V, idxOf_8 t]

theorem blk_9 (c : Dev nD) (t : Fin cfg0.N) (s : Fin 4) (r : Fin 256) (l : Fin 128) :
    (iblk (F := Ideal) m c 9 t : Vec Ideal S1x4x256x128 .bf16) (ix4 0 s r l) = m ((c.tc : Thread nD τ).loc main_arg6) (ix4 (projAt t) s (rowAt t r) l) := by
  have h0 : (grid0.coords t 0).val < 3 := (grid0.coords t 0).isLt
  have h1 : (grid0.coords t 1).val < 27 := (grid0.coords t 1).isLt
  unfold projAt projOf rowAt
  blk_ext! [iblk, V, idxOf_9 t]

theorem blk_10 (c : Dev nD) (t : Fin cfg0.N) (q : Fin 512) (k : Fin 5120) :
    (iblk (F := Ideal) m c 10 t : Vec Ideal S1x512x5120 .bf16) (ix3 0 q k) = m ((c.tc : Thread nD τ).loc main_arg7) (ix4 (projAt t) ⟨q.val / 128, by omega⟩ ⟨q.val % 128, by omega⟩ k) := by
  have h0 : (grid0.coords t 0).val < 3 := (grid0.coords t 0).isLt
  have h1 : (grid0.coords t 1).val < 27 := (grid0.coords t 1).isLt
  unfold projAt projOf
  blk_ext! [iblk, V, idxOf_10 t]

theorem blk_11 (c : Dev nD) (t : Fin cfg0.N) (r : Fin 256) :
    (iblk (F := Ideal) m c 11 t : Vec Ideal S1x1x256 .f32) (ix3 0 0 r) = m ((c.tc : Thread nD τ).loc main_arg11) (ix2 (projAt t) (rowAt t r)) := by
  have h0 : (grid0.coords t 0).val < 3 := (grid0.coords t 0).isLt
  have h1 : (grid0.coords t 1).val < 27 := (grid0.coords t 1).isLt
  unfold projAt projOf rowAt
  blk_ext! [iblk, V, idxOf_11 t]

/-- A row of the arrays in memory. -/
def memRow (c : Dev nD) (b : Fin 3) (r : Fin 6912) : Row :=
  rowOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) b r

theorem vec4 {α : Type} (f : Fin 4 → α) (s : Fin 4) : ![f 0, f 1, f 2, f 3] s = f s := by
  fin_cases s <;> rfl

theorem be_at (c : Dev nD) (t : Fin cfg0.N) (r : Fin 256) (q : Fin 512) :
    blkBe (grid0.coords t) (iblk (F := Ideal) m c 0 t) (iblk (F := Ideal) m c 1 t) (iblk (F := Ideal) m c 2 t) (iblk (F := Ideal) m c 9 t) (ix2 r q)
      = (memRow m c (projAt t) (rowAt t r)).be q := by
  have hs : q.val / 128 < 4 := by have := q.isLt; omega
  have hl : q.val % 128 < 128 := Nat.mod_lt _ (by decide)
  unfold blkBe
  refine (beOf_at _ _ _ _ (ix2 r q) ⟨q.val / 128, hs⟩ ⟨q.val % 128, hl⟩ (by show q.val = 128 * (q.val / 128) + q.val % 128; omega)).symm.trans ?_
  have h9 := blk_9 m c t ⟨q.val / 128, hs⟩ r ⟨q.val % 128, hl⟩
  have e0 := (vec4 (fun s => (iblk (F := Ideal) m c 0 t : Vec Ideal S3x4 .i32) (ix2 (projOf (grid0.coords t)) s)) ⟨q.val / 128, hs⟩).trans (blk_0 m c t _ _)
  have e1 := (vec4 (fun s => (iblk (F := Ideal) m c 1 t : Vec Ideal S3x4 .f32) (ix2 (projOf (grid0.coords t)) s)) ⟨q.val / 128, hs⟩).trans (blk_1 m c t _ _)
  have e2 := (vec4 (fun s => (iblk (F := Ideal) m c 2 t : Vec Ideal S3x4 .f32) (ix2 (projOf (grid0.coords t)) s)) ⟨q.val / 128, hs⟩).trans (blk_2 m c t _ _)
  exact congr (congr (congr (congr (congrArg cell h9) e2) e1) e0) rfl

theorem row_congr {wc wc' : Fin 5120 → EReal} {ws ws' : EReal} {l1 l1' : Fin 32 → EReal} {l1s l1s' : EReal} {l2 l2' : Fin 32 → Fin 5120 → EReal}
    {l2s l2s' : Fin 5120 → EReal} {be be' : Fin 512 → EReal} {la la' : Fin 512 → Fin 5120 → EReal} {m m' : EReal}
    (h0 : ∀ k, wc k = wc' k) (h1 : ws = ws') (h2 : ∀ j, l1 j = l1' j) (h3 : l1s = l1s') (h4 : ∀ j k, l2 j k = l2' j k) (h5 : ∀ k, l2s k = l2s' k)
    (h6 : ∀ q, be q = be' q) (h7 : ∀ q k, la q k = la' q k) (h8 : m = m') :
    Row.mk wc ws l1 l1s l2 l2s be la m = Row.mk wc' ws' l1' l1s' l2' l2s' be' la' m' := by
  obtain rfl := funext h0
  obtain rfl := h1
  obtain rfl := funext h2
  obtain rfl := h3
  obtain rfl := funext fun j => funext (h4 j)
  obtain rfl := funext h5
  obtain rfl := funext h6
  obtain rfl := funext fun q => funext (h7 q)
  obtain rfl := h8
  rfl

/-- A row of a grid point's blocks is a row of the arrays. -/
theorem blkRow_eq (c : Dev nD) (t : Fin cfg0.N) (r : Fin 256) :
    blkRow (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) r = memRow m c (projAt t) (rowAt t r) :=
  row_congr (fun k => blk_3 m c t r k) (blk_4 m c t r) (fun j => blk_5 m c t j r) (blk_6 m c t r) (fun j k => blk_7 m c t j k) (fun k => blk_8 m c t k)
    (fun q => be_at m c t r q) (fun q k => blk_10 m c t q k) (blk_11 m c t r)

end Cert.KernelIdeal.Gen
end
-- ==== Proof.ITile.lean ====
/- The per-row results of the merge, one buffer for a whole run: a grid point writes the rows of its own tile and leaves
   the tiles of the points before it. -/
module

public import proofs.«01_k».proof.Proof.IBlocks

@[expose] public section
set_option maxRecDepth 16384
set_option maxHeartbeats 4000000
noncomputable section

namespace Cert.KernelIdeal.Gen
open Idealize.ShloMosaic Idealize.ShloMosaic.TcCoe Idealize.ShloMosaic.Tactic

open Cert.Merge
variable (m : (ℓ : Loc nD τ sig) → Buf (Elt Ideal) ℓ)

theorem coords_fst (t : Fin cfg0.N) : (grid0.coords t 0).val = t.val / 27 :=
  (by decide +kernel : ∀ t : Fin grid0.N, (grid0.coords t 0).val = t.val / 27) t

theorem coords_snd (t : Fin cfg0.N) : (grid0.coords t 1).val = t.val % 27 :=
  (by decide +kernel : ∀ t : Fin grid0.N, (grid0.coords t 1).val = t.val % 27) t

theorem offOf (t : Fin cfg0.N) : k0_off10 (grid0.coords t) = ![t.val / 27, 0, t.val % 27 * 256] :=
  (by decide +kernel : ∀ t : Fin grid0.N, k0_off10 (grid0.coords t) = ![t.val / 27, 0, t.val % 27 * 256]) t

theorem projAt_val (t : Fin cfg0.N) : (projAt t).val = t.val / 27 := coords_fst t

theorem rowAt_val (t : Fin cfg0.N) (r : Fin 256) : (rowAt t r).val = t.val % 27 * 256 + r.val := by
  show (grid0.coords t 1).val * 256 + r.val = _
  rw [coords_snd]

/-- The grid point whose tile a row lies in, and the row's place in the tile. -/
theorem exists_point (b : Fin 3) (r : Fin 6912) : ∃ (u : Fin cfg0.N) (q : Fin 256), projAt u = b ∧ rowAt u q = r := by
  have hb := b.isLt
  have hr := r.isLt
  have hu : 27 * b.val + r.val / 256 < cfg0.N := by
    have h81 : cfg0.N = 81 := N_0
    omega
  refine ⟨⟨27 * b.val + r.val / 256, hu⟩, ⟨r.val % 256, Nat.mod_lt _ (by decide)⟩, Fin.ext ?_, Fin.ext ?_⟩
  · rw [projAt_val]; show (27 * b.val + r.val / 256) / 27 = b.val; omega
  · rw [rowAt_val]; show (27 * b.val + r.val / 256) % 27 * 256 + r.val % 256 = r.val; omega

/-- Inside the window: what was put there. -/
theorem put_in (x : Vec Ideal S3x1x6912 .f32) (a b e : ℕ) (w : Vec Ideal S1x1x256 .f32) (p : Fin 3) (q : Fin 6912) (r : Fin 256)
    (hp : p.val = a) (hb : b = 0) (hq : q.val = e + r.val) : VecWindow.put x ![a, b, e] ![1, 1, 256] w (ix3 p 0 q) = w (ix3 0 0 r) := by
  subst hb
  have hr := r.isLt
  have h : ∀ k, (![a, 0, e] : Fin 3 → ℕ) k ≤ ((ix3 p 0 q : S3x1x6912.Idx) k).val ∧ ((ix3 p 0 q : S3x1x6912.Idx) k).val < (![a, 0, e] : Fin 3 → ℕ) k + (![1, 1, 256] : Fin 3 → ℕ) k := by
    intro k
    match k with
    | ⟨0, _⟩ => exact ⟨hp.ge, (by show p.val < a + 1; omega)⟩
    | ⟨1, _⟩ => exact ⟨le_refl 0, (by show 0 < 0 + 1; omega)⟩
    | ⟨2, _⟩ => exact ⟨(by show e ≤ q.val; omega), (by show q.val < e + 256; omega)⟩
  refine (dif_pos h).trans (congrArg w (funext fun k => ?_))
  match k with
  | ⟨0, _⟩ => exact Fin.ext (by show p.val - a = 0; omega)
  | ⟨1, _⟩ => exact Fin.ext (by show 0 - 0 = 0; rfl)
  | ⟨2, _⟩ => exact Fin.ext (by show q.val - e = r.val; omega)

/-- Outside the window: what was there. -/
theorem put_out (x : Vec Ideal S3x1x6912 .f32) (a b e : ℕ) (w : Vec Ideal S1x1x256 .f32) (p : Fin 3) (q : Fin 6912)
    (h : p.val ≠ a ∨ q.val < e ∨ e + 256 ≤ q.val) : VecWindow.put x ![a, b, e] ![1, 1, 256] w (ix3 p 0 q) = x (ix3 p 0 q) := by
  refine dif_neg fun hk => ?_
  have h0 : a ≤ p.val ∧ p.val < a + 1 := hk 0
  have h2 : e ≤ q.val ∧ q.val < e + 256 := hk 2
  omega

/-- The tiles of the points below `n` hold the rows' values of `f`. -/
def Acc (f : Row → EReal) (c : Dev nD) (n : ℕ) (X : Vec Ideal S3x1x6912 .f32) : Prop :=
  ∀ u : Fin cfg0.N, u.val < n → ∀ r : Fin 256, X (ix3 (projAt u) 0 (rowAt u r)) = f (memRow m c (projAt u) (rowAt u r))

theorem acc_zero (f : Row → EReal) (c : Dev nD) (X : Vec Ideal S3x1x6912 .f32) : Acc m f c 0 X :=
  fun _ h => absurd h (Nat.not_lt_zero _)

/-- One more point's tile. -/
theorem acc_step (f : Row → EReal) (c : Dev nD) (t : Fin cfg0.N) (X : Vec Ideal S3x1x6912 .f32) (w : Vec Ideal S1x1x256 .f32)
    (hX : Acc m f c t.val X) (hw : ∀ r : Fin 256, w (ix3 0 0 r) = f (memRow m c (projAt t) (rowAt t r))) :
    Acc m f c (t.val + 1) (VecWindow.put X (k0_off10 (grid0.coords t)) ![1, 1, 256] w) := by
  intro u hu r
  rw [offOf t]
  have hr := r.isLt
  by_cases h : u = t
  · subst h
    exact (put_in X _ _ _ w _ _ r (projAt_val u) rfl (rowAt_val u r)).trans (hw r)
  · have hne : u.val ≠ t.val := fun e => h (Fin.ext e)
    refine (put_out X _ _ _ w _ _ ?_).trans (hX u (by omega) r)
    rw [projAt_val, rowAt_val]
    omega

/-- All points' tiles are all rows. -/
theorem acc_all (f : Row → EReal) (c : Dev nD) (n : ℕ) (hn : 81 ≤ n) (X : Vec Ideal S3x1x6912 .f32) (hX : Acc m f c n X) (b : Fin 3) (z : Fin 1) (r : Fin 6912) :
    X (ix3 b z r) = f (memRow m c b r) := by
  obtain ⟨u, q, rfl, rfl⟩ := exists_point b r
  have h81 : cfg0.N = 81 := N_0
  have := u.isLt
  obtain rfl : z = 0 := Subsingleton.elim _ _
  exact hX u (by omega) q

theorem step_norm (c : Dev nD) (t : Fin cfg0.N) (X : Vec Ideal S3x1x6912 .f32) (hX : Acc m Row.norm c t.val X) :
    Acc m Row.norm c (t.val + 1) (VecWindow.put X (k0_off10 (grid0.coords t)) ![1, 1, 256] (k0_pay54 (F := Ideal) (blkAcc (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t)))) :=
  acc_step m Row.norm c t X _ hX fun r => (norm_at (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) r).trans (congrArg Row.norm (blkRow_eq m c t r))

theorem step_err (c : Dev nD) (t : Fin cfg0.N) (X : Vec Ideal S3x1x6912 .f32) (hX : Acc m Row.err c t.val X) :
    Acc m Row.err c (t.val + 1) (VecWindow.put X (k0_off10 (grid0.coords t)) ![1, 1, 256] (k0_pay5 (F := Ideal) (blkE (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t)))) :=
  acc_step m Row.err c t X _ hX fun r => (err_at (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) r).trans (congrArg Row.err (blkRow_eq m c t r))

theorem step_s8 (c : Dev nD) (t : Fin cfg0.N) (X : Vec Ideal S3x1x6912 .f32) (hX : Acc m Row.s8 c t.val X) :
    Acc m Row.s8 c (t.val + 1) (VecWindow.put X (k0_off10 (grid0.coords t)) ![1, 1, 256] (k0_pay66 (F := Ideal) (blkAmax (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t)))) :=
  acc_step m Row.s8 c t X _ hX fun r => (s8_at (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) r).trans (congrArg Row.s8 (blkRow_eq m c t r))

/-- A point's codes are the rows' codes. -/
theorem codes_at (c : Dev nD) (t : Fin cfg0.N) (r : Fin 256) (k : Fin 5120) :
    (blkC (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) : Vec Ideal S1x256x5120 .fp8e4m3) (ix3 0 r k) = (memRow m c (projAt t) (rowAt t r)).c8 k :=
  (blkC_at (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) r k).trans (congrArg (fun R : Row => R.c8 k) (blkRow_eq m c t r))

/-- A point's merged weight, turned over, is the rows' merged weight. -/
theorem merged_at (c : Dev nD) (t : Fin cfg0.N) (r : Fin 256) (k : Fin 5120) :
    (blkT (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) : Vec Ideal S1x5120x256 .f32) (ix3 0 k r) = (memRow m c (projAt t) (rowAt t r)).w k :=
  (blkT_at (grid0.coords t) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) r k).trans (congrArg (fun R : Row => R.w k) (blkRow_eq m c t r))

end Cert.KernelIdeal.Gen
end
-- ==== Proof.IBody.lean ====
/- The body of the merge over the extended reals at every grid point: what the point before may have left in the per-row
   results, it finds; and it leaves its own tile's rows beside them, its block of codes and its block of the merged weight. -/
module

public import proofs.«01_k».proof.Proof.IRunA
public import proofs.«01_k».proof.Proof.IRunB
public import proofs.«01_k».proof.Proof.ITile
public import Idealize.ShloMosaic.Lib.Pipeline.DatRel
public import Idealize.ShloMosaic.Lib.Pipeline.ArrRel
public import Idealize.ShloMosaic.Lib.Pipeline.FrameBody

@[expose] public section

-- membership in a rectangle of production extents (`View.cover_of_tiled`): the elaborator's structural look
-- recurses once per coordinate of the long axes
set_option maxRecDepth 16384
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationRel cellOf)

open Cert.Merge

local notation "𝕄" => MT nD τ sig Unit (Elt Ideal) ℕ (UR sig nD τ) ℕ

variable (m : (ℓ : Loc nD τ sig) → Buf (Elt Ideal) ℓ) (ρ : Dev nD → PrngReg)
/-- The result windows: what the body leaves in them is described, not named. -/
def forgets0 : Fin 18 → Bool := fun w => w.val == 12 || w.val == 13 || w.val == 14 || w.val == 15 || w.val == 16 || w.val == 17

/-- The proof data of the pipeline on core `c`: the arrays as the region finds them, each input's buffer at its block. -/
def dats (_ : Fin 1) (c : Dev nD) : Dat τ (Elt Ideal) Unit ℕ (UR sig nD τ) ℕ cfg0 c where
  A w := V m c (Pipeline.arrRef spec0 w)
  after w t := match w with
    | ⟨0, _⟩ => iblk (F := Ideal) m c 0 t
    | ⟨1, _⟩ => iblk (F := Ideal) m c 1 t
    | ⟨2, _⟩ => iblk (F := Ideal) m c 2 t
    | ⟨3, _⟩ => iblk (F := Ideal) m c 3 t
    | ⟨4, _⟩ => iblk (F := Ideal) m c 4 t
    | ⟨5, _⟩ => iblk (F := Ideal) m c 5 t
    | ⟨6, _⟩ => iblk (F := Ideal) m c 6 t
    | ⟨7, _⟩ => iblk (F := Ideal) m c 7 t
    | ⟨8, _⟩ => iblk (F := Ideal) m c 8 t
    | ⟨9, _⟩ => iblk (F := Ideal) m c 9 t
    | ⟨10, _⟩ => iblk (F := Ideal) m c 10 t
    | ⟨11, _⟩ => iblk (F := Ideal) m c 11 t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk (F := Ideal) m c 0 t := by dsimp only [dats]
theorem after0_1 (c : Dev nD) (t : Fin cfg0.N) : (dats m 0 c).after 1 t = iblk (F := Ideal) m c 1 t := by dsimp only [dats]
theorem after0_2 (c : Dev nD) (t : Fin cfg0.N) : (dats m 0 c).after 2 t = iblk (F := Ideal) m c 2 t := by dsimp only [dats]
theorem after0_3 (c : Dev nD) (t : Fin cfg0.N) : (dats m 0 c).after 3 t = iblk (F := Ideal) m c 3 t := by dsimp only [dats]
theorem after0_4 (c : Dev nD) (t : Fin cfg0.N) : (dats m 0 c).after 4 t = iblk (F := Ideal) m c 4 t := by dsimp only [dats]
theorem after0_5 (c : Dev nD) (t : Fin cfg0.N) : (dats m 0 c).after 5 t = iblk (F := Ideal) m c 5 t := by dsimp only [dats]
theorem after0_6 (c : Dev nD) (t : Fin cfg0.N) : (dats m 0 c).after 6 t = iblk (F := Ideal) m c 6 t := by dsimp only [dats]
theorem after0_7 (c : Dev nD) (t : Fin cfg0.N) : (dats m 0 c).after 7 t = iblk (F := Ideal) m c 7 t := by dsimp only [dats]
theorem after0_8 (c : Dev nD) (t : Fin cfg0.N) : (dats m 0 c).after 8 t = iblk (F := Ideal) m c 8 t := by dsimp only [dats]
theorem after0_9 (c : Dev nD) (t : Fin cfg0.N) : (dats m 0 c).after 9 t = iblk (F := Ideal) m c 9 t := by dsimp only [dats]
theorem after0_10 (c : Dev nD) (t : Fin cfg0.N) : (dats m 0 c).after 10 t = iblk (F := Ideal) m c 10 t := by dsimp only [dats]
theorem after0_11 (c : Dev nD) (t : Fin cfg0.N) : (dats m 0 c).after 11 t = iblk (F := Ideal) m c 11 t := by dsimp only [dats]
theorem before0_0 (c : Dev nD) (t : Fin cfg0.N) (d) : (dats m 0 c).before 0 t d = iblk (F := Ideal) m c 0 t :=
  before0_0_of m (dats m 0 c) (A_eq m c 0) (after0_0 m c) t d
theorem before0_1 (c : Dev nD) (t : Fin cfg0.N) (d) : (dats m 0 c).before 1 t d = iblk (F := Ideal) m c 1 t :=
  before0_1_of m (dats m 0 c) (A_eq m c 1) (after0_1 m c) t d
theorem before0_2 (c : Dev nD) (t : Fin cfg0.N) (d) : (dats m 0 c).before 2 t d = iblk (F := Ideal) m c 2 t :=
  before0_2_of m (dats m 0 c) (A_eq m c 2) (after0_2 m c) t d
theorem before0_3 (c : Dev nD) (t : Fin cfg0.N) (d) : (dats m 0 c).before 3 t d = iblk (F := Ideal) m c 3 t :=
  before0_3_of m (dats m 0 c) (A_eq m c 3) (after0_3 m c) t d
theorem before0_4 (c : Dev nD) (t : Fin cfg0.N) (d) : (dats m 0 c).before 4 t d = iblk (F := Ideal) m c 4 t :=
  before0_4_of m (dats m 0 c) (A_eq m c 4) (after0_4 m c) t d
theorem before0_5 (c : Dev nD) (t : Fin cfg0.N) (d) : (dats m 0 c).before 5 t d = iblk (F := Ideal) m c 5 t :=
  before0_5_of m (dats m 0 c) (A_eq m c 5) (after0_5 m c) t d
theorem before0_6 (c : Dev nD) (t : Fin cfg0.N) (d) : (dats m 0 c).before 6 t d = iblk (F := Ideal) m c 6 t :=
  before0_6_of m (dats m 0 c) (A_eq m c 6) (after0_6 m c) t d
theorem before0_7 (c : Dev nD) (t : Fin cfg0.N) (d) : (dats m 0 c).before 7 t d = iblk (F := Ideal) m c 7 t :=
  before0_7_of m (dats m 0 c) (A_eq m c 7) (after0_7 m c) t d
theorem before0_8 (c : Dev nD) (t : Fin cfg0.N) (d) : (dats m 0 c).before 8 t d = iblk (F := Ideal) m c 8 t :=
  before0_8_of m (dats m 0 c) (A_eq m c 8) (after0_8 m c) t d
theorem before0_9 (c : Dev nD) (t : Fin cfg0.N) (d) : (dats m 0 c).before 9 t d = iblk (F := Ideal) m c 9 t :=
  before0_9_of m (dats m 0 c) (A_eq m c 9) (after0_9 m c) t d
theorem before0_10 (c : Dev nD) (t : Fin cfg0.N) (d) : (dats m 0 c).before 10 t d = iblk (F := Ideal) m c 10 t :=
  before0_10_of m (dats m 0 c) (A_eq m c 10) (after0_10 m c) t d
theorem before0_11 (c : Dev nD) (t : Fin cfg0.N) (d) : (dats m 0 c).before 11 t d = iblk (F := Ideal) m c 11 t :=
  before0_11_of m (dats m 0 c) (A_eq m c 11) (after0_11 m c) t d

/-- The point's block of codes. -/
def CodesAt (c : Dev nD) (t : Fin cfg0.N) (X : Vec Ideal S1x256x5120 .fp8e4m3) : Prop :=
  ∀ (r : Fin 256) (k : Fin 5120), X (ix3 0 r k) = (memRow m c (projAt t) (rowAt t r)).c8 k

/-- The point's block of the merged weight, turned over. -/
def MergedAt (c : Dev nD) (t : Fin cfg0.N) (X : Vec Ideal S1x5120x256 .f32) : Prop :=
  ∀ (r : Fin 256) (k : Fin 5120), X (ix3 0 k r) = (memRow m c (projAt t) (rowAt t r)).w k

/-- What the body leaves in a result window at a point. -/
def Rl (c : Dev nD) (w : Fin cfg0.W) (t : Fin cfg0.N) : ((cfg0.win w).block.Idx → Elt Ideal (cfg0.win w).elt) → Prop :=
  match w with
  | ⟨0, _⟩ => fun X => True
  | ⟨1, _⟩ => fun X => True
  | ⟨2, _⟩ => fun X => True
  | ⟨3, _⟩ => fun X => True
  | ⟨4, _⟩ => fun X => True
  | ⟨5, _⟩ => fun X => True
  | ⟨6, _⟩ => fun X => True
  | ⟨7, _⟩ => fun X => True
  | ⟨8, _⟩ => fun X => True
  | ⟨9, _⟩ => fun X => True
  | ⟨10, _⟩ => fun X => True
  | ⟨11, _⟩ => fun X => True
  | ⟨12, _⟩ => fun X => Acc m Row.norm c (t.val + 1) X
  | ⟨13, _⟩ => fun X => Acc m Row.err c (t.val + 1) X
  | ⟨14, _⟩ => fun X => Acc m Row.s8 c (t.val + 1) X
  | ⟨15, _⟩ => fun X => CodesAt m c t X
  | ⟨16, _⟩ => fun X => MergedAt m c t X
  | ⟨17, _⟩ => fun X => True
  | ⟨_ + 18, h⟩ => absurd h (Nat.not_lt.2 (Nat.le_add_left _ _))

/-- What the body finds of `norm` at a point: the rows of all points before it. -/
theorem finds_norm (c : Dev nD) (t : Fin cfg0.N) (Y : Vec Ideal S3x1x6912 .f32) (h : ((dats m 0 c).toRRel forgets0 (Rl m c)).Finds 12 t Y) :
    Acc m Row.norm c t.val Y := by
  have hN : t.val < 81 := lt_of_lt_of_eq t.isLt (show cfg0.N = 81 from N_0)
  by_cases h0 : t.val = 0
  · rw [h0]; exact acc_zero m Row.norm c Y
  · rcases (((dats m 0 c).toRRel forgets0 (Rl m c)).finds_of_pos (w := 12) (t := t) rfl h0 Y).mp h with hf | hl
    · exact absurd ((flush0_12 _).mp hf) (by show ¬ (t.val - 1) % 81 = 80; omega)
    · have hr : Acc m Row.norm c (t.val - 1 + 1) Y := (dats m 0 c).toRRel_leaves (w := 12) rfl hl
      rwa [Nat.sub_add_cancel (Nat.pos_of_ne_zero h0)] at hr

/-- What the body finds of `err` at a point: the rows of all points before it. -/
theorem finds_err (c : Dev nD) (t : Fin cfg0.N) (Y : Vec Ideal S3x1x6912 .f32) (h : ((dats m 0 c).toRRel forgets0 (Rl m c)).Finds 13 t Y) :
    Acc m Row.err c t.val Y := by
  have hN : t.val < 81 := lt_of_lt_of_eq t.isLt (show cfg0.N = 81 from N_0)
  by_cases h0 : t.val = 0
  · rw [h0]; exact acc_zero m Row.err c Y
  · rcases (((dats m 0 c).toRRel forgets0 (Rl m c)).finds_of_pos (w := 13) (t := t) rfl h0 Y).mp h with hf | hl
    · exact absurd ((flush0_13 _).mp hf) (by show ¬ (t.val - 1) % 81 = 80; omega)
    · have hr : Acc m Row.err c (t.val - 1 + 1) Y := (dats m 0 c).toRRel_leaves (w := 13) rfl hl
      rwa [Nat.sub_add_cancel (Nat.pos_of_ne_zero h0)] at hr

/-- What the body finds of `s8` at a point: the rows of all points before it. -/
theorem finds_s8 (c : Dev nD) (t : Fin cfg0.N) (Y : Vec Ideal S3x1x6912 .f32) (h : ((dats m 0 c).toRRel forgets0 (Rl m c)).Finds 14 t Y) :
    Acc m Row.s8 c t.val Y := by
  have hN : t.val < 81 := lt_of_lt_of_eq t.isLt (show cfg0.N = 81 from N_0)
  by_cases h0 : t.val = 0
  · rw [h0]; exact acc_zero m Row.s8 c Y
  · rcases (((dats m 0 c).toRRel forgets0 (Rl m c)).finds_of_pos (w := 14) (t := t) rfl h0 Y).mp h with hf | hl
    · exact absurd ((flush0_14 _).mp hf) (by show ¬ (t.val - 1) % 81 = 80; omega)
    · have hr : Acc m Row.s8 c (t.val - 1 + 1) Y := (dats m 0 c).toRRel_leaves (w := 14) rfl hl
      rwa [Nat.sub_add_cancel (Nat.pos_of_ne_zero h0)] at hr

/-- What the body is called with at point `t`, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ Y, ⌜((dats m 0 c).toRRel forgets0 (Rl m c)).Finds 12 t Y⌝ ∗ owns (c : Thread nD τ) (ms0_12 t) fullShare Y)
    ∗ (∃ Y, ⌜((dats m 0 c).toRRel forgets0 (Rl m c)).Finds 13 t Y⌝ ∗ owns (c : Thread nD τ) (ms0_13 t) fullShare Y)
    ∗ (∃ Y, ⌜((dats m 0 c).toRRel forgets0 (Rl m c)).Finds 14 t Y⌝ ∗ owns (c : Thread nD τ) (ms0_14 t) fullShare Y)
    ∗ (∃ Y, ⌜((dats m 0 c).toRRel forgets0 (Rl m c)).Finds 15 t Y⌝ ∗ owns (c : Thread nD τ) (ms0_15 t) fullShare Y)
    ∗ (∃ Y, ⌜((dats m 0 c).toRRel forgets0 (Rl m c)).Finds 16 t Y⌝ ∗ owns (c : Thread nD τ) (ms0_16 t) fullShare Y)
    ∗ (∃ Y, ⌜((dats m 0 c).toRRel forgets0 (Rl m c)).Finds 17 t Y⌝ ∗ owns (c : Thread nD τ) (ms0_17 t) fullShare Y))

/-- What the body is to return at point `t`, window by window. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ (∃ X, ⌜Rl m c 12 t X⌝ ∗ owns (c : Thread nD τ) (ms0_12 t) fullShare X)
    ∗ (∃ X, ⌜Rl m c 13 t X⌝ ∗ owns (c : Thread nD τ) (ms0_13 t) fullShare X)
    ∗ (∃ X, ⌜Rl m c 14 t X⌝ ∗ owns (c : Thread nD τ) (ms0_14 t) fullShare X)
    ∗ (∃ X, ⌜Rl m c 15 t X⌝ ∗ owns (c : Thread nD τ) (ms0_15 t) fullShare X)
    ∗ (∃ X, ⌜Rl m c 16 t X⌝ ∗ owns (c : Thread nD τ) (ms0_16 t) fullShare X)
    ∗ (∃ X, ⌜Rl m c 17 t X⌝ ∗ owns (c : Thread nD τ) (ms0_17 t) fullShare X))

set_option maxHeartbeats 8000000 in
/-- The body at any point: its run, at the blocks the point reads and at what the results' windows may hold. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, after0_0, after0_1, after0_2, after0_3, after0_4, after0_5, after0_6, after0_7, after0_8, after0_9, after0_10, after0_11]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 81 := lt_of_lt_of_eq t.isLt (show cfg0.N = 81 from N_0)
  by_cases h0 : t.val % 27 = 0
  · have h1 : ¬ 1 ≤ t.val % 27 := by omega
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, %hf12, H12⟩, ⟨%d13, %hf13, H13⟩, ⟨%d14, %hf14, H14⟩, ⟨%d15, %hf15, H15⟩, ⟨%d16, %hf16, H16⟩, ⟨%d17, %hf17, H17⟩⟩
    iapply ((idealRun_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) d12 d13 d14) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, H12, H13, H14, H15, H16, ⟨%d17, H17⟩, HS0, HS1, HS2, HS3, HS4, HS5, HS6⟩
    isplitl [HS0 HS1 HS2 HS3 HS4 HS5 HS6 Hg]
    · isplitl [HS0 HS1 HS2 HS3 HS4 HS5 HS6]
      · isplitl [HS0]
        · iexact HS0
        isplitl [HS1]
        · iexact HS1
        isplitl [HS2]
        · iexact HS2
        isplitl [HS3]
        · iexact HS3
        isplitl [HS4]
        · iexact HS4
        isplitl [HS5]
        · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; isplitr; swap; · iexact H12
      ipureintro
      exact step_norm m c t d12 (finds_norm m c t d12 hf12)
    isplitl [H13]
    · iexists _; isplitr; swap; · iexact H13
      ipureintro
      exact step_err m c t d13 (finds_err m c t d13 hf13)
    isplitl [H14]
    · iexists _; isplitr; swap; · iexact H14
      ipureintro
      exact step_s8 m c t d14 (finds_s8 m c t d14 hf14)
    isplitl [H15]
    · iexists _; isplitr; swap; · iexact H15
      ipureintro
      exact (fun r k => codes_at m c t r k : CodesAt m c t _)
    isplitl [H16]
    · iexists _; isplitr; swap; · iexact H16
      ipureintro
      exact (fun r k => merged_at m c t r k : MergedAt m c t _)
    iexists _; isplitr; swap; · iexact H17
    ipureintro
    exact (trivial : Rl m c 17 t _)

  · have h1 : 1 ≤ t.val % 27 := by omega
    iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, %hf12, H12⟩, ⟨%d13, %hf13, H13⟩, ⟨%d14, %hf14, H14⟩, ⟨%d15, %hf15, H15⟩, ⟨%d16, %hf16, H16⟩, ⟨%d17, %hf17, H17⟩⟩
    iapply ((idealRun_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) (iblk (F := Ideal) m c 7 t) (iblk (F := Ideal) m c 8 t) (iblk (F := Ideal) m c 9 t) (iblk (F := Ideal) m c 10 t) (iblk (F := Ideal) m c 11 t) d12 d13 d14) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexists _; iexact H16
    isplitl [H17]; · iexists _; iexact H17
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    iintro ⟨H0, H1, H2, H3, H4, H5, H6, H7, H8, H9, H10, H11, H12, H13, H14, H15, H16, ⟨%d17, H17⟩, HS0, HS1, HS2, HS3, HS4, HS5, HS6⟩
    isplitl [HS0 HS1 HS2 HS3 HS4 HS5 HS6 Hg]
    · isplitl [HS0 HS1 HS2 HS3 HS4 HS5 HS6]
      · isplitl [HS0]
        · iexact HS0
        isplitl [HS1]
        · iexact HS1
        isplitl [HS2]
        · iexact HS2
        isplitl [HS3]
        · iexact HS3
        isplitl [HS4]
        · iexact HS4
        isplitl [HS5]
        · iexact HS5
        iexact HS6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iexists _; isplitr; swap; · iexact H12
      ipureintro
      exact step_norm m c t d12 (finds_norm m c t d12 hf12)
    isplitl [H13]
    · iexists _; isplitr; swap; · iexact H13
      ipureintro
      exact step_err m c t d13 (finds_err m c t d13 hf13)
    isplitl [H14]
    · iexists _; isplitr; swap; · iexact H14
      ipureintro
      exact step_s8 m c t d14 (finds_s8 m c t d14 hf14)
    isplitl [H15]
    · iexists _; isplitr; swap; · iexact H15
      ipureintro
      exact (fun r k => codes_at m c t r k : CodesAt m c t _)
    isplitl [H16]
    · iexists _; isplitr; swap; · iexact H16
      ipureintro
      exact (fun r k => merged_at m c t r k : MergedAt m c t _)
    iexists _; isplitr; swap; · iexact H17
    ipureintro
    exact (trivial : Rl m c 17 t _)

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : BodyObligationRel (dats m 0 c) (defs₀ (F := Ideal)) Variants.none () Set.univ forgets0 (Rl m c) := fun t => by
  rw [bigSep_W0, bigSep_W0, defs₀_row]
  exact triple_restated (sound_body m c t) rfl .rfl fun _ => .rfl

-- the launch's implicit arguments are found by unifying its conclusion with this one
set_option backward.isDefEq.respectTransparency.types false in
/-- The run: every execution ends with the arrays as the body's obligations say and every semaphore at zero. -/
theorem run_main_quiescent : θ_run defs (onTc (τ := τ) (main (F := Ideal))) (s₀ m ρ)
    (fun r => (Pipeline.RDat.FramePost (cfgs 0) (fun c => (dats m 0 c).toRRel forgets0 (Rl m c)) (V m)) r ∧ r.2.sem = fun _ => 0) :=
  Pipeline.RDat.θ_run_frame (Q' := _) cfgs (0 : Fin 1) launch0 defs₀ Variants.none (fun c => (dats m 0 c).toRRel forgets0 (Rl m c)) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := Ideal))) (s₀ m ρ)
    (Pipeline.RDat.FramePost (cfgs 0) (fun c => (dats m 0 c).toRRel forgets0 (Rl m c)) (V m)) :=
  (θ_run defs _ _).mono (fun _ h => h.1) (run_main_quiescent m ρ)

end Cert.KernelIdeal.Gen

end
-- ==== Proof.IValue.lean ====
/- What the merge leaves in its five results over the extended reals: the rows' values, row by row of the arrays in memory;
   and the frame of the run. -/
module

public import proofs.«01_k».proof.Proof.IBody
public import Idealize.ShloMosaic.Lib.Pipeline.ValueKit
public import Idealize.ShloMosaic.Lib.Pipeline.ArrRel

@[expose] public section
set_option maxRecDepth 16384
set_option maxHeartbeats 4000000
noncomputable section

namespace Cert.KernelIdeal.Gen
open Idealize.ShloMosaic Idealize.ShloMosaic.TcCoe Idealize.ShloMosaic.Tactic
open Idealize.SL Idealize.SL.Sem
open Idealize.ShloMosaic.Pipeline (Dat Cfg Window RDat)

open Cert.Merge

variable (m : (ℓ : Loc nD τ sig) → Buf (Elt Ideal) ℓ) (ρ : Dev nD → PrngReg)

/-- What the run's post is. -/
abbrev RunPost (r : PUnit × MemSt nD τ sig (Elt Ideal)) : Prop :=
  Pipeline.RDat.FramePost (cfgs 0) (fun c => (dats m 0 c).toRRel forgets0 (Rl m c)) (V m) r

theorem whole_12 : (cfg0.win 12).WholeAt (⟨80, by rw [show cfg0.N = 81 from N_0]; decide⟩ : Fin cfg0.N) := by decide +kernel

/-- The result `norm`: each row's. -/
theorem out_norm (r : PUnit × MemSt nD τ sig (Elt Ideal)) (h : RunPost m r) (c : Dev nD) :
    r.2.mem ((c.tc : Thread nD τ).loc main_v6_0) = fun y : S3x1x6912.Idx => (memRow m c (y 0) (y 2)).norm := by
  obtain ⟨X, hX, hG⟩ := Pipeline.RDat.ArrAt.emb_eq_of_wholeAt ((h c).1 12) whole_12
  have hA : Acc m Row.norm c (80 + 1) X := (dats m 0 c).toRRel_leaves (w := 12) rfl hX
  funext y
  refine (hG y).trans ?_
  refine Eq.trans (b := (X : Vec Ideal S3x1x6912 .f32) (ix3 (y 0) (y 1) (y 2))) ?_ (acc_all m Row.norm c 81 (le_refl 81) X hA (y 0) (y 1) (y 2))
  refine congrArg (X : Vec Ideal S3x1x6912 .f32) (funext fun a => ?_)
  match a with
  | ⟨0, _⟩ => rfl
  | ⟨1, _⟩ => rfl
  | ⟨2, _⟩ => rfl

theorem whole_13 : (cfg0.win 13).WholeAt (⟨80, by rw [show cfg0.N = 81 from N_0]; decide⟩ : Fin cfg0.N) := by decide +kernel

/-- The result `err`: each row's. -/
theorem out_err (r : PUnit × MemSt nD τ sig (Elt Ideal)) (h : RunPost m r) (c : Dev nD) :
    r.2.mem ((c.tc : Thread nD τ).loc main_v6_1) = fun y : S3x1x6912.Idx => (memRow m c (y 0) (y 2)).err := by
  obtain ⟨X, hX, hG⟩ := Pipeline.RDat.ArrAt.emb_eq_of_wholeAt ((h c).1 13) whole_13
  have hA : Acc m Row.err c (80 + 1) X := (dats m 0 c).toRRel_leaves (w := 13) rfl hX
  funext y
  refine (hG y).trans ?_
  refine Eq.trans (b := (X : Vec Ideal S3x1x6912 .f32) (ix3 (y 0) (y 1) (y 2))) ?_ (acc_all m Row.err c 81 (le_refl 81) X hA (y 0) (y 1) (y 2))
  refine congrArg (X : Vec Ideal S3x1x6912 .f32) (funext fun a => ?_)
  match a with
  | ⟨0, _⟩ => rfl
  | ⟨1, _⟩ => rfl
  | ⟨2, _⟩ => rfl

theorem whole_14 : (cfg0.win 14).WholeAt (⟨80, by rw [show cfg0.N = 81 from N_0]; decide⟩ : Fin cfg0.N) := by decide +kernel

/-- The result `s8`: each row's. -/
theorem out_s8 (r : PUnit × MemSt nD τ sig (Elt Ideal)) (h : RunPost m r) (c : Dev nD) :
    r.2.mem ((c.tc : Thread nD τ).loc main_v6_2) = fun y : S3x1x6912.Idx => (memRow m c (y 0) (y 2)).s8 := by
  obtain ⟨X, hX, hG⟩ := Pipeline.RDat.ArrAt.emb_eq_of_wholeAt ((h c).1 14) whole_14
  have hA : Acc m Row.s8 c (80 + 1) X := (dats m 0 c).toRRel_leaves (w := 14) rfl hX
  funext y
  refine (hG y).trans ?_
  refine Eq.trans (b := (X : Vec Ideal S3x1x6912 .f32) (ix3 (y 0) (y 1) (y 2))) ?_ (acc_all m Row.s8 c 81 (le_refl 81) X hA (y 0) (y 1) (y 2))
  refine congrArg (X : Vec Ideal S3x1x6912 .f32) (funext fun a => ?_)
  match a with
  | ⟨0, _⟩ => rfl
  | ⟨1, _⟩ => rfl
  | ⟨2, _⟩ => rfl

/-- The result `c8`: each row's. -/
theorem out_c8 (r : PUnit × MemSt nD τ sig (Elt Ideal)) (h : RunPost m r) (c : Dev nD) :
    r.2.mem ((c.tc : Thread nD τ).loc main_v6_3) = fun y : S3x6912x5120.Idx => (memRow m c (y 0) (y 1)).c8 (y 2) := by
  obtain ⟨after, hL', hG⟩ := Pipeline.RDat.FramePost.exists_exact h c
  have hL : ∀ t, CodesAt m c t (after 15 t) := fun t => (dats m 0 c).toRRel_leaves (w := 15) rfl (hL' 15 t (flush0_15 t))
  refine (hG 15).trans ?_
  refine Pipeline.Dat.arrAt_eq_of_covers _ 15 _ (by decide +kernel) fun t hf y => ?_
  blk_simp [Pipeline.RDat.withAfter_after]
  have y0 : (y 0).val < 1 := (y 0).isLt
  have e0 : ((win0_15.blk t).view.emb y 0 : Fin 3) = projAt t := Fin.ext (by
    blk_simp [idxOf_15 t]
    rfl)
  have eR : ((win0_15.blk t).view.emb y 1 : Fin 6912) = rowAt t (y 1) := Fin.ext (by
    blk_simp [idxOf_15 t]
    rfl)
  have eK : ((win0_15.blk t).view.emb y 2 : Fin 5120) = y 2 := Fin.ext (by
    blk_simp [idxOf_15 t])
  refine Eq.trans (b := (after 15 t : Vec Ideal S1x256x5120 .fp8e4m3) (ix3 0 (y 1) (y 2))) ?_ ?_
  · refine congrArg (after 15 t : Vec Ideal S1x256x5120 .fp8e4m3) (funext fun a => ?_)
    match a with
    | ⟨0, _⟩ => exact Fin.ext (by show (y 0).val = 0; omega)
    | ⟨1, _⟩ => rfl
    | ⟨2, _⟩ => rfl
  · refine (hL t (y 1) (y 2)).trans ?_
    exact congr (congrArg Row.c8 (congr (congrArg (memRow m c) e0.symm) eR.symm)) eK.symm

/-- The result `w`: each row's. -/
theorem out_w (r : PUnit × MemSt nD τ sig (Elt Ideal)) (h : RunPost m r) (c : Dev nD) :
    r.2.mem ((c.tc : Thread nD τ).loc main_v6_4) = fun y : S3x5120x6912.Idx => (memRow m c (y 0) (y 2)).w (y 1) := by
  obtain ⟨after, hL', hG⟩ := Pipeline.RDat.FramePost.exists_exact h c
  have hL : ∀ t, MergedAt m c t (after 16 t) := fun t => (dats m 0 c).toRRel_leaves (w := 16) rfl (hL' 16 t (flush0_16 t))
  refine (hG 16).trans ?_
  refine Pipeline.Dat.arrAt_eq_of_covers _ 16 _ (by decide +kernel) fun t hf y => ?_
  blk_simp [Pipeline.RDat.withAfter_after]
  have y0 : (y 0).val < 1 := (y 0).isLt
  have e0 : ((win0_16.blk t).view.emb y 0 : Fin 3) = projAt t := Fin.ext (by
    blk_simp [idxOf_16 t]
    rfl)
  have eR : ((win0_16.blk t).view.emb y 2 : Fin 6912) = rowAt t (y 2) := Fin.ext (by
    blk_simp [idxOf_16 t]
    rfl)
  have eK : ((win0_16.blk t).view.emb y 1 : Fin 5120) = y 1 := Fin.ext (by
    blk_simp [idxOf_16 t])
  refine Eq.trans (b := (after 16 t : Vec Ideal S1x5120x256 .f32) (ix3 0 (y 1) (y 2))) ?_ ?_
  · refine congrArg (after 16 t : Vec Ideal S1x5120x256 .f32) (funext fun a => ?_)
    match a with
    | ⟨0, _⟩ => exact Fin.ext (by show (y 0).val = 0; omega)
    | ⟨1, _⟩ => rfl
    | ⟨2, _⟩ => rfl
  · refine (hL t (y 2) (y 1)).trans ?_
    exact congr (congrArg Row.w (congr (congrArg (memRow m c) e0.symm) eR.symm)) eK.symm

/-- The frame: the arguments end unchanged and the semaphores at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11))
      ∧ r.2.sem = fun _ => 0) :=
  θ_run_and (frame_ofR m ρ (fun c => (dats m 0 c).toRRel forgets0 (Rl m c)) (A_eq m) (run_main m ρ))
    ((θ_run defs _ _).mono (fun _ h => h.2) (run_main_quiescent m ρ))

/-- The values: the five results are the rows' values, and the arguments end unchanged. -/
theorem value : θ_run defs (onTc (τ := τ) (main (F := Ideal))) ⟨m, fun _ => 0, ρ⟩ (fun r => ∀ c : Dev nD,
      r.2.mem ((c.tc : Thread nD τ).loc main_v6_0) = (fun y : S3x1x6912.Idx => (memRow m c (y 0) (y 2)).norm)
      ∧ r.2.mem ((c.tc : Thread nD τ).loc main_v6_1) = (fun y : S3x1x6912.Idx => (memRow m c (y 0) (y 2)).err)
      ∧ r.2.mem ((c.tc : Thread nD τ).loc main_v6_2) = (fun y : S3x1x6912.Idx => (memRow m c (y 0) (y 2)).s8)
      ∧ r.2.mem ((c.tc : Thread nD τ).loc main_v6_3) = (fun y : S3x6912x5120.Idx => (memRow m c (y 0) (y 1)).c8 (y 2))
      ∧ r.2.mem ((c.tc : Thread nD τ).loc main_v6_4) = (fun y : S3x5120x6912.Idx => (memRow m c (y 0) (y 2)).w (y 1))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11)) :=
  (θ_run defs _ _).mono (fun r h c => ⟨out_norm m r h.1 c, out_err m r h.1 c, out_s8 m r h.1 c, out_c8 m r h.1 c, out_w m r h.1 c, h.2 c⟩)
    (θ_run_and (run_main m ρ) (frame_ofR m ρ (fun c => (dats m 0 c).toRRel forgets0 (Rl m c)) (A_eq m) (run_main m ρ)))

end Cert.KernelIdeal.Gen
end
-- ==== Proof.Agree.lean ====
/- The values the kernel and the reference leave are the same: both are the rows' values, of the same arguments. -/
module

public import proofs.«01_k».proof.Defs
public import proofs.«01_k».proof.Proof.IValue
public import proofs.«01_k».proof.Proof.Ref

@[expose] public section
set_option maxRecDepth 16384
set_option maxHeartbeats 4000000
noncomputable section

namespace Cert.Agree

open Idealize.ShloMosaic Idealize.ShloMosaic.TcCoe Idealize.ShloMosaic.Tactic Idealize.SL.Sem
open Cert.Merge

/-- An index of a rank-3 shape from its coordinates. -/
theorem eta3 {a b d : ℕ} (y : (⟨3, ![a, b, d]⟩ : Shape).Idx) : y = ix3 (y 0) (y 1) (y 2) := by
  funext k
  match k with
  | ⟨0, _⟩ => rfl
  | ⟨1, _⟩ => rfl
  | ⟨2, _⟩ => rfl

theorem algebraic : Cert.algebraic_KernelIdeal_ReferenceIdeal (hKernelIdeal := Cert.KernelIdeal.Gen.facts) (hReferenceIdeal := Cert.ReferenceIdeal.Gen.facts) := by
  intro m g m' g' _ hagree
  have hrow : ∀ (c : Dev Cert.KernelIdeal.nD) (b : Fin 3) (r : Fin 6912),
      rowOf (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) b r = Cert.KernelIdeal.Gen.memRow m c b r := by
    intro c b r
    obtain ⟨h0, h1, h2, h3, h4, h5, h6, h7, h8, h9, h10, h11⟩ := hagree c
    rw [h0, h1, h2, h3, h4, h5, h6, h7, h8, h9, h10, h11]
    rfl
  refine ⟨fun c y => (Cert.KernelIdeal.Gen.memRow m c (y 0) (y 2)).norm, fun c y => (Cert.KernelIdeal.Gen.memRow m c (y 0) (y 2)).err,
    fun c y => (Cert.KernelIdeal.Gen.memRow m c (y 0) (y 2)).s8, fun c y => (Cert.KernelIdeal.Gen.memRow m c (y 0) (y 1)).c8 (y 2),
    fun c y => (Cert.KernelIdeal.Gen.memRow m c (y 0) (y 2)).w (y 1), Cert.KernelIdeal.Gen.value m g, ?_⟩
  refine (θ_run _ _ _).mono (fun r h c => ?_) (Cert.ReferenceIdeal.Value.run (F := Ideal) m' g')
  obtain ⟨e0, e1, e2, e3, e4, hargs⟩ := h c
  refine ⟨e0.trans (funext fun y => ?_), e1.trans (funext fun y => ?_), e2.trans (funext fun y => ?_), e3.trans (funext fun y => ?_), e4.trans (funext fun y => ?_), hargs⟩
  · exact (congrArg (Cert.ReferenceIdeal.Value.G12 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))) (eta3 y)).trans
      ((Cert.ReferenceIdeal.Gen.norm_val (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (y 0) (y 1) (y 2)).trans (congrArg Row.norm (hrow c (y 0) (y 2))))
  · exact (congrArg (Cert.ReferenceIdeal.Value.G13 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))) (eta3 y)).trans
      ((Cert.ReferenceIdeal.Gen.err_val (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (y 0) (y 1) (y 2)).trans (congrArg Row.err (hrow c (y 0) (y 2))))
  · exact (congrArg (Cert.ReferenceIdeal.Value.G14 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))) (eta3 y)).trans
      ((Cert.ReferenceIdeal.Gen.s8_val (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (y 0) (y 1) (y 2)).trans (congrArg Row.s8 (hrow c (y 0) (y 2))))
  · exact (congrArg (Cert.ReferenceIdeal.Value.G15 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))) (eta3 y)).trans
      ((Cert.ReferenceIdeal.Gen.c8_val (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (y 0) (y 1) (y 2)).trans (congrArg (fun R : Row => R.c8 (y 2)) (hrow c (y 0) (y 1))))
  · exact (congrArg (Cert.ReferenceIdeal.Value.G16 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11))) (eta3 y)).trans
      ((Cert.ReferenceIdeal.Gen.wt_val (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (y 0) (y 1) (y 2)).trans (congrArg (fun R : Row => R.w (y 1)) (hrow c (y 0) (y 2))))

end Cert.Agree
end
-- ==== Proof.lean ====
module

public import proofs.«01_k».proof.Defs
public import proofs.«01_k».proof.Proof.KForget
public import proofs.«01_k».proof.Proof.IValue
public import proofs.«01_k».proof.Proof.Ref
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Gen.frame m ρ,
  trivial, Cert.Agree.algebraic⟩

end Cert.Proof

end
